-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_start [hPre_zero_start : Cert.Pre_zero_start.Facts] (m : (ℓ : Loc Cert.KernelIdeal.nD Cert.KernelIdeal.τ Cert.KernelIdeal.sig) → Buf (Elt Ideal) ℓ) : Prop :=
  ∀ c : Dev Cert.KernelIdeal.nD,
    (Cert.Pre_zero_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_start [hPre_zero_start : Cert.Pre_zero_start.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_start [hKernelIdeal : Cert.KernelIdeal.Facts] [hPre_zero_start : Cert.Pre_zero_start.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_start m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zero_start [hReferenceIdeal : Cert.ReferenceIdeal.Facts] [hPre_zero_start : Cert.Pre_zero_start.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_start m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.sign_bit.Statement Cert.KernelIdeal.S64x64 .f32

def algebraic_KernelIdeal_ReferenceIdeal_pre_zero_start [hKernelIdeal : Cert.KernelIdeal.Facts] [hReferenceIdeal : Cert.ReferenceIdeal.Facts] [hPre_zero_start : Cert.Pre_zero_start.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_start m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zero_start : Cert.Pre_zero_start.Facts),
    quiescent_Kernel (hKernel := hKernel)
    ∧ quiescent_KernelIdeal (hKernelIdeal := hKernelIdeal)
    ∧ quiescent_KernelIdeal_pre_zero_start (hKernelIdeal := hKernelIdeal) (hPre_zero_start := hPre_zero_start)
    ∧ quiescent_ReferenceIdeal (hReferenceIdeal := hReferenceIdeal)
    ∧ quiescent_ReferenceIdeal_pre_zero_start (hReferenceIdeal := hReferenceIdeal) (hPre_zero_start := hPre_zero_start)
    ∧ preserves_Kernel_KernelIdeal
    ∧ algebraic_KernelIdeal_ReferenceIdeal_pre_zero_start (hKernelIdeal := hKernelIdeal) (hReferenceIdeal := hReferenceIdeal) (hPre_zero_start := hPre_zero_start)
-- ==== Pre_zero_start.lean ====
abbrev S128x2048 : Shape := ⟨2, ![128, 2048]⟩
abbrev S2048x2048 : Shape := ⟨2, ![2048, 2048]⟩
abbrev S64x64 : Shape := ⟨2, ![64, 64]⟩
abbrev S64x128 : Shape := ⟨2, ![64, 128]⟩
abbrev S64x2048 : Shape := ⟨2, ![64, 2048]⟩
abbrev S2048 : Shape := ⟨1, ![2048]⟩
abbrev S_ : Shape := ⟨0, ![]⟩

class Facts : Prop where
  bcast_S_S64x2048 : S_.BroadcastsInDim S64x2048 (![] : Fin 0 → Fin S64x2048.rank)

variable [Facts]

def fn {F : FTy → Type} [FloatOps F] (main_arg0 : FVec F S128x2048 .f32) (main_arg1 : FVec F S2048x2048 .f32) (main_arg2 : FVec F S64x64 .f32) (main_arg3 : FVec F S64x128 .f32) (main_arg4 : FVec F S64x2048 .f32) (main_arg5 : FVec F S2048x2048 .f32) (main_arg6 : FVec F S2048 .f32) : IVec S64x2048 1 :=
  let main_cst : FVec F S_ .f32 := constant S_ .f32 0x00000000#32
  let main_v0 : FVec F S64x2048 .f32 := broadcastInDim S64x2048 ![] bcast_S_S64x2048 main_cst
  let main_v1 : IVec S64x2048 1 := cmpf .oeq main_arg4 main_v0
  main_v1
-- ==== Kernel.lean ====
abbrev S128x2048 : Shape := ⟨2, ![128, 2048]⟩
abbrev S2048x2048 : Shape := ⟨2, ![2048, 2048]⟩
abbrev S64x64 : Shape := ⟨2, ![64, 64]⟩
abbrev S64x128 : Shape := ⟨2, ![64, 128]⟩
abbrev S64x2048 : Shape := ⟨2, ![64, 2048]⟩
abbrev S2048 : Shape := ⟨1, ![2048]⟩
abbrev S1x2048 : Shape := ⟨2, ![1, 2048]⟩
abbrev S2048x64 : Shape := ⟨2, ![2048, 64]⟩
abbrev S2048x256 : Shape := ⟨2, ![2048, 256]⟩
abbrev S2048x1 : Shape := ⟨2, ![2048, 1]⟩
abbrev S2048x512 : Shape := ⟨2, ![2048, 512]⟩
abbrev S512x1 : Shape := ⟨2, ![512, 1]⟩
abbrev S1x2048x1 : Shape := ⟨3, ![1, 2048, 1]⟩
abbrev S1 : Shape := ⟨1, ![1]⟩
abbrev S1x1x1 : Shape := ⟨3, ![1, 1, 1]⟩
abbrev S64 : Shape := ⟨1, ![64]⟩
abbrev S64x1 : Shape := ⟨2, ![64, 1]⟩

abbrev nBuf : Space → Nat
  | .hbm => 9
  | .vmem => 11
  | .smem => 0
  | _ => 0

abbrev bufTy : (tb : Table) → Fin (tcTables nBuf tb) → BufTy
  | .hbm, ⟨0, _⟩ => ⟨S128x2048, .f32⟩
  | .hbm, ⟨1, _⟩ => ⟨S2048x2048, .f32⟩
  | .hbm, ⟨2, _⟩ => ⟨S64x64, .f32⟩
  | .hbm, ⟨3, _⟩ => ⟨S64x128, .f32⟩
  | .hbm, ⟨4, _⟩ => ⟨S64x2048, .f32⟩
  | .hbm, ⟨5, _⟩ => ⟨S2048x2048, .f32⟩
  | .hbm, ⟨6, _⟩ => ⟨S2048, .f32⟩
  | .hbm, ⟨7, _⟩ => ⟨S1x2048, .f32⟩
  | .hbm, ⟨8, _⟩ => ⟨S2048x64, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S128x2048, .f32⟩
  | .local _ .vmem, ⟨6, _⟩ => ⟨S64x64, .f32⟩
  | .local _ .vmem, ⟨7, _⟩ => ⟨S64x128, .f32⟩
  | .local _ .vmem, ⟨8, _⟩ => ⟨S2048x64, .f32⟩
  | .local _ .vmem, ⟨9, _⟩ => ⟨S2048x2048, .f32⟩
  | .local _ .vmem, ⟨10, _⟩ => ⟨S2048x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [BitOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_6 : BitVec 32 := 0#32
  let v11 : BitVec 1 := Scalar.cmpi .ne v10 c0_i32_6
  v11

@[reducible] def k0_t1_loop : Scf.Loop 32 :=
  let c0_i32_13 : BitVec 32 := 0#32
  let c6_i32 : BitVec 32 := 6#32
  let v18 : BitVec 32 := Scalar.addi c0_i32_13 c6_i32
  let c1_i32 : BitVec 32 := 1#32
  ⟨c0_i32_13, v18, c1_i32⟩
@[reducible] def k0_t2_loop : Scf.Loop 32 :=
  let c0_i32_21 : BitVec 32 := 0#32
  let c50_i32 : BitVec 32 := 50#32
  let v30 : BitVec 32 := Scalar.addi c0_i32_21 c50_i32
  let c1_i32_22 : BitVec 32 := 1#32
  ⟨c0_i32_21, v30, c1_i32_22⟩
@[reducible] def k0_t3_loop : Scf.Loop 32 :=
  let c0_i32_35 : BitVec 32 := 0#32
  let c19_i32 : BitVec 32 := 19#32
  let v62 : BitVec 32 := Scalar.addi c0_i32_35 c19_i32
  let c1_i32_36 : BitVec 32 := 1#32
  ⟨c0_i32_35, v62, c1_i32_36⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F]
-- ==== ReferenceIdeal.lean ====
abbrev S128x2048 : Shape := ⟨2, ![128, 2048]⟩
abbrev S2048x2048 : Shape := ⟨2, ![2048, 2048]⟩
abbrev S64x64 : Shape := ⟨2, ![64, 64]⟩
abbrev S64x128 : Shape := ⟨2, ![64, 128]⟩
abbrev S64x2048 : Shape := ⟨2, ![64, 2048]⟩
abbrev S2048 : Shape := ⟨1, ![2048]⟩
abbrev S1x2048 : Shape := ⟨2, ![1, 2048]⟩
abbrev S_ : Shape := ⟨0, ![]⟩
abbrev S64 : Shape := ⟨1, ![64]⟩
abbrev S1x64 : Shape := ⟨2, ![1, 64]⟩
abbrev S64x1 : Shape := ⟨2, ![64, 1]⟩
abbrev S64x1x1 : Shape := ⟨3, ![64, 1, 1]⟩
abbrev S1 : Shape := ⟨1, ![1]⟩
abbrev S1x1x1 : Shape := ⟨3, ![1, 1, 1]⟩
abbrev S2048x64 : Shape := ⟨2, ![2048, 64]⟩

abbrev nBuf : Space → Nat
  | .hbm => 290
  | .vmem => 0
  | .smem => 0
  | _ => 0

abbrev hbmTy0_0 (i : Nat) : BufTy := match i % 128 with
  | 0 => ⟨S128x2048, .f32⟩
  | 1 => ⟨S2048x2048, .f32⟩
  | 2 => ⟨S64x64, .f32⟩
  | 3 => ⟨S64x128, .f32⟩
  | 4 => ⟨S64x2048, .f32⟩
  | 5 => ⟨S2048x2048, .f32⟩
  | 6 => ⟨S2048, .f32⟩
  | 7 => ⟨S2048x2048, .f32⟩
  | 8 => ⟨S2048x2048, .f32⟩
  | 9 => ⟨S1x2048, .f32⟩
  | 10 => ⟨S2048x2048, .f32⟩
  | 11 => ⟨S2048x2048, .f32⟩
  | 12 => ⟨S2048x2048, .f32⟩
  | 13 => ⟨S_, .f32⟩
  | 14 => ⟨S2048, .f32⟩
  | 15 => ⟨S_, .f32⟩
  | 16 => ⟨S2048, .f32⟩
  | 17 => ⟨S2048, .f32⟩
  | 18 => ⟨S2048, .f32⟩
  | 19 => ⟨S2048, .f32⟩
  | 20 => ⟨S_, .f32⟩
  | 21 => ⟨S_, .f32⟩
  | 22 => ⟨S_, .f32⟩
  | 23 => ⟨S_, .f32⟩
  | 24 => ⟨S_, .f32⟩
  | 25 => ⟨S2048, .f32⟩
  | 26 => ⟨S2048, .f32⟩
  | 27 => ⟨S2048, .f32⟩
  | 28 => ⟨S2048, .f32⟩
  | 29 => ⟨S_, .f32⟩
  | 30 => ⟨S_, .f32⟩
  | 31 => ⟨S_, .f32⟩
  | 32 => ⟨S_, .f32⟩
  | 33 => ⟨S_, .f32⟩
  | 34 => ⟨S2048, .f32⟩
  | 35 => ⟨S2048, .f32⟩
  | 36 => ⟨S2048, .f32⟩
  | 37 => ⟨S2048, .f32⟩
  | 38 => ⟨S_, .f32⟩
  | 39 => ⟨S_, .f32⟩
  | 40 => ⟨S_, .f32⟩
  | 41 => ⟨S_, .f32⟩
  | 42 => ⟨S_, .f32⟩
  | 43 => ⟨S2048, .f32⟩
  | 44 => ⟨S2048, .f32⟩
  | 45 => ⟨S2048, .f32⟩
  | 46 => ⟨S2048, .f32⟩
  | 47 => ⟨S_, .f32⟩
  | 48 => ⟨S_, .f32⟩
  | 49 => ⟨S_, .f32⟩
  | 50 => ⟨S_, .f32⟩
  | 51 => ⟨S_, .f32⟩
  | 52 => ⟨S2048, .f32⟩
  | 53 => ⟨S2048, .f32⟩
  | 54 => ⟨S2048, .f32⟩
  | 55 => ⟨S2048, .f32⟩
  | 56 => ⟨S_, .f32⟩
  | 57 => ⟨S_, .f32⟩
  | 58 => ⟨S_, .f32⟩
  | 59 => ⟨S_, .f32⟩
  | 60 => ⟨S_, .f32⟩
  | 61 => ⟨S2048, .f32⟩
  | 62 => ⟨S2048, .f32⟩
  | 63 => ⟨S2048, .f32⟩
  | 64 => ⟨S2048, .f32⟩
  | 65 => ⟨S_, .f32⟩
  | 66 => ⟨S_, .f32⟩
  | 67 => ⟨S_, .f32⟩
  | 68 => ⟨S_, .f32⟩
  | 69 => ⟨S_, .f32⟩
  | 70 => ⟨S2048, .f32⟩
  | 71 => ⟨S2048, .f32⟩
  | 72 => ⟨S_, .f32⟩
  | 73 => ⟨S_, .f32⟩
  | 74 => ⟨S_, .f32⟩
  | 75 => ⟨S_, .f32⟩
  | 76 => ⟨S_, .f32⟩
  | 77 => ⟨S64x64, .f32⟩
  | 78 => ⟨S_, .f32⟩
  | 79 => ⟨S64, .f32⟩
  | 80 => ⟨S64x64, .f32⟩
  | 81 => ⟨S64x64, .f32⟩
  | 82 => ⟨S_, .f32⟩
  | 83 => ⟨S_, .f32⟩
  | 84 => ⟨S64x64, .f32⟩
  | 85 => ⟨S64, .f32⟩
  | 86 => ⟨S_, .f32⟩
  | 87 => ⟨S64, .f32⟩
  | 88 => ⟨S64, .f32⟩
  | 89 => ⟨S64x64, .f32⟩
  | 90 => ⟨S64x64, .f32⟩
  | 91 => ⟨S1x64, .f32⟩
  | 92 => ⟨S64x64, .f32⟩
  | 93 => ⟨S64x64, .f32⟩
  | 94 => ⟨S64x64, .f32⟩
  | 95 => ⟨S_, .f32⟩
  | 96 => ⟨S64x64, .f32⟩
  | 97 => ⟨S64x64, .i1⟩
  | 98 => ⟨S64x64, .i32⟩
  | 99 => ⟨S_, .i32⟩
  | 100 => ⟨S64, .i32⟩
  | 101 => ⟨S_, .i32⟩
  | 102 => ⟨S64, .i32⟩
  | 103 => ⟨S64, .i32⟩
  | 104 => ⟨S_, .i32⟩
  | 105 => ⟨S64, .i32⟩
  | 106 => ⟨S64, .i32⟩
  | 107 => ⟨S64x1, .i32⟩
  | 108 => ⟨S_, .i32⟩
  | 109 => ⟨S64x1, .i32⟩
  | 110 => ⟨S64x1, .i1⟩
  | 111 => ⟨S_, .i32⟩
  | 112 => ⟨S64x1, .i32⟩
  | 113 => ⟨S64x1, .i32⟩
  | 114 => ⟨S64x1, .i32⟩
  | 115 => ⟨S64x1x1, .i32⟩
  | 116 => ⟨S1, .i32⟩
  | 117 => ⟨S_, .i32⟩
  | 118 => ⟨S64x1x1, .i32⟩
  | 119 => ⟨S64x1x1, .i1⟩
  | 120 => ⟨S1x1x1, .i32⟩
  | 121 => ⟨S64x1x1, .i32⟩
  | 122 => ⟨S64x1x1, .i1⟩
  | 123 => ⟨S64x1x1, .i1⟩
  | 124 => ⟨S_, .i1⟩
  | 125 => ⟨S64x1, .i1⟩
  | 126 => ⟨S64x1, .f32⟩
  | 127 => ⟨S_, .f32⟩
  | _ => ⟨S128x2048, .f32⟩

abbrev hbmTy0_1 (i : Nat) : BufTy := match i % 128 with
  | 0 => ⟨S64x1, .f32⟩
  | 1 => ⟨S64x1, .f32⟩
  | 2 => ⟨S64, .f32⟩
  | 3 => ⟨S64, .f32⟩
  | 4 => ⟨S64, .f32⟩
  | 5 => ⟨S64, .f32⟩
  | 6 => ⟨S64, .f32⟩
  | 7 => ⟨S_, .f32⟩
  | 8 => ⟨S64, .f32⟩
  | 9 => ⟨S_, .f32⟩
  | 10 => ⟨S64, .f32⟩
  | 11 => ⟨S64, .f32⟩
  | 12 => ⟨S64, .f32⟩
  | 13 => ⟨S64, .f32⟩
  | 14 => ⟨S_, .f32⟩
  | 15 => ⟨S_, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S64x64, .f32⟩
  | 27 => ⟨S64x1, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S64, .f32⟩
  | 35 => ⟨S64, .i1⟩
  | 36 => ⟨S64x1, .i1⟩
  | 37 => ⟨S64x64, .i1⟩
  | 38 => ⟨S64x64, .f32⟩
  | 39 => ⟨S64x2048, .f32⟩
  | 40 => ⟨S64x2048, .f32⟩
  | 41 => ⟨S64x2048, .f32⟩
  | 42 => ⟨S64x2048, .f32⟩
  | 43 => ⟨S64x2048, .f32⟩
  | 44 => ⟨S_, .f32⟩
  | 45 => ⟨S64x2048, .f32⟩
  | 46 => ⟨S64x2048, .f32⟩
  | 47 => ⟨S64x2048, .f32⟩
  | 48 => ⟨S64x2048, .f32⟩
  | 49 => ⟨S64x2048, .f32⟩
  | 50 => ⟨S_, .f32⟩
  | 51 => ⟨S64x2048, .f32⟩
  | 52 => ⟨S64x2048, .f32⟩
  | 53 => ⟨S64x2048, .f32⟩
  | 54 => ⟨S64x2048, .f32⟩
  | 55 => ⟨S64x2048, .f32⟩
  | 56 => ⟨S_, .f32⟩
  | 57 => ⟨S64x2048, .f32⟩
  | 58 => ⟨S64x2048, .f32⟩
  | 59 => ⟨S64x2048, .f32⟩
  | 60 => ⟨S64x2048, .f32⟩
  | 61 => ⟨S64x2048, .f32⟩
  | 62 => ⟨S_, .f32⟩
  | 63 => ⟨S64x2048, .f32⟩
  | 64 => ⟨S64x2048, .f32⟩
  | 65 => ⟨S64x2048, .f32⟩
  | 66 => ⟨S64x2048, .f32⟩
  | 67 => ⟨S64x2048, .f32⟩
  | 68 => ⟨S_, .f32⟩
  | 69 => ⟨S64x2048, .f32⟩
  | 70 => ⟨S64x2048, .f32⟩
  | 71 => ⟨S64x2048, .f32⟩
  | 72 => ⟨S64x2048, .f32⟩
  | 73 => ⟨S64x2048, .f32⟩
  | 74 => ⟨S_, .f32⟩
  | 75 => ⟨S64x2048, .f32⟩
  | 76 => ⟨S64x2048, .f32⟩
  | 77 => ⟨S64x2048, .f32⟩
  | 78 => ⟨S64x2048, .f32⟩
  | 79 => ⟨S64x2048, .f32⟩
  | 80 => ⟨S_, .f32⟩
  | 81 => ⟨S64x2048, .f32⟩
  | 82 => ⟨S64x2048, .f32⟩
  | 83 => ⟨S64x2048, .f32⟩
  | 84 => ⟨S64x2048, .f32⟩
  | 85 => ⟨S64x2048, .f32⟩
  | 86 => ⟨S_, .f32⟩
  | 87 => ⟨S64x2048, .f32⟩
  | 88 => ⟨S64x2048, .f32⟩
  | 89 => ⟨S64x2048, .f32⟩
  | 90 => ⟨S64x2048, .f32⟩
  | 91 => ⟨S64x2048, .f32⟩
  | 92 => ⟨S_, .f32⟩
  | 93 => ⟨S64x2048, .f32⟩
  | 94 => ⟨S64x2048, .f32⟩
  | 95 => ⟨S64x2048, .f32⟩
  | 96 => ⟨S64x2048, .f32⟩
  | 97 => ⟨S64x2048, .f32⟩
  | 98 => ⟨S_, .f32⟩
  | 99 => ⟨S64x2048, .f32⟩
  | 100 => ⟨S64x2048, .f32⟩
  | 101 => ⟨S64x2048, .f32⟩
  | 102 => ⟨S64x2048, .f32⟩
  | 103 => ⟨S64x2048, .f32⟩
  | 104 => ⟨S_, .f32⟩
  | 105 => ⟨S64x2048, .f32⟩
  | 106 => ⟨S64x2048, .f32⟩
  | 107 => ⟨S64x2048, .f32⟩
  | 108 => ⟨S64x2048, .f32⟩
  | 109 => ⟨S64x2048, .f32⟩
  | 110 => ⟨S_, .f32⟩
  | 111 => ⟨S64x2048, .f32⟩
  | 112 => ⟨S64x2048, .f32⟩
  | 113 => ⟨S64x2048, .f32⟩
  | 114 => ⟨S64x2048, .f32⟩
  | 115 => ⟨S64x2048, .f32⟩
  | 116 => ⟨S_, .f32⟩
  | 117 => ⟨S64x2048, .f32⟩
  | 118 => ⟨S64x2048, .f32⟩
  | 119 => ⟨S64x2048, .f32⟩
  | 120 => ⟨S64x2048, .f32⟩
  | 121 => ⟨S64x2048, .f32⟩
  | 122 => ⟨S_, .f32⟩
  | 123 => ⟨S64x2048, .f32⟩
  | 124 => ⟨S64x2048, .f32⟩
  | 125 => ⟨S64x2048, .f32⟩
  | 126 => ⟨S64x2048, .f32⟩
  | 127 => ⟨S64x2048, .f32⟩
  | _ => ⟨S128x2048, .f32⟩

abbrev hbmTy0_2 (i : Nat) : BufTy := match i % 128 with
  | 0 => ⟨S_, .f32⟩
  | 1 => ⟨S64x2048, .f32⟩
  | 2 => ⟨S64x2048, .f32⟩
  | 3 => ⟨S64x2048, .f32⟩
  | 4 => ⟨S64x2048, .f32⟩
  | 5 => ⟨S64x2048, .f32⟩
  | 6 => ⟨S_, .f32⟩
  | 7 => ⟨S64x2048, .f32⟩
  | 8 => ⟨S64x2048, .f32⟩
  | 9 => ⟨S64x2048, .f32⟩
  | 10 => ⟨S64x2048, .f32⟩
  | 11 => ⟨S64x2048, .f32⟩
  | 12 => ⟨S_, .f32⟩
  | 13 => ⟨S64x2048, .f32⟩
  | 14 => ⟨S64x2048, .f32⟩
  | 15 => ⟨S64x2048, .f32⟩
  | 16 => ⟨S64x2048, .f32⟩
  | 17 => ⟨S64x2048, .f32⟩
  | 18 => ⟨S_, .f32⟩
  | 19 => ⟨S64x2048, .f32⟩
  | 20 => ⟨S64x2048, .f32⟩
  | 21 => ⟨S64x2048, .f32⟩
  | 22 => ⟨S64x2048, .f32⟩
  | 23 => ⟨S64x2048, .f32⟩
  | 24 => ⟨S_, .f32⟩
  | 25 => ⟨S64x2048, .f32⟩
  | 26 => ⟨S64x2048, .f32⟩
  | 27 => ⟨S64x2048, .f32⟩
  | 28 => ⟨S64x2048, .f32⟩
  | 29 => ⟨S64x2048, .f32⟩
  | 30 => ⟨S_, .f32⟩
  | 31 => ⟨S64x2048, .f32⟩
  | 32 => ⟨S64x2048, .f32⟩
  | 33 => ⟨S2048x64, .f32⟩
  | _ => ⟨S128x2048, .f32⟩

abbrev hbmTy (i : Nat) : BufTy := match i / 128 with
  | 0 => hbmTy0_0 i
  | 1 => hbmTy0_1 i
  | 2 => hbmTy0_2 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call3_v0 : Ref sig .tc := ⟨.hbm, 46, rfl⟩
abbrev main_call3_cst : Ref sig .tc := ⟨.hbm, 47, rfl⟩
abbrev main_call3_v1 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call4_v0 : Ref sig .tc := ⟨.hbm, 55, rfl⟩
abbrev main_call4_cst : Ref sig .tc := ⟨.hbm, 56, rfl⟩
abbrev main_call4_v1 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call5_v0 : Ref sig .tc := ⟨.hbm, 64, rfl⟩
abbrev main_call5_cst : Ref sig .tc := ⟨.hbm, 65, rfl⟩
abbrev main_call5_v1 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_cst_9 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call7_call0_cst : Ref sig .tc := ⟨.hbm, 82, rfl⟩
abbrev main_call7_call0_v0 : Ref sig .tc := ⟨.hbm, 83, rfl⟩
abbrev main_v46 : Ref sig .tc := ⟨.hbm, 84, rfl⟩
abbrev main_v47 : Ref sig .tc := ⟨.hbm, 85, rfl⟩
abbrev main_cst_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c : Ref sig .tc := ⟨.hbm, 99, rfl⟩
abbrev main_v59 : Ref sig .tc := ⟨.hbm, 100, rfl⟩
abbrev main_c_12 : Ref sig .tc := ⟨.hbm, 101, rfl⟩
abbrev main_v60 : Ref sig .tc := ⟨.hbm, 102, rfl⟩
abbrev main_v61 : Ref sig .tc := ⟨.hbm, 103, rfl⟩
abbrev main_c_13 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call8_c : Ref sig .tc := ⟨.hbm, 108, rfl⟩
abbrev main_call8_v0 : Ref sig .tc := ⟨.hbm, 109, rfl⟩
abbrev main_call8_v1 : Ref sig .tc := ⟨.hbm, 110, rfl⟩
abbrev main_call8_c_0 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_call8_v5 : Ref sig .tc := ⟨.hbm, 115, rfl⟩
abbrev main_call8_c_1 : Ref sig .tc := ⟨.hbm, 116, rfl⟩
abbrev main_call8_c_2 : Ref sig .tc := ⟨.hbm, 117, rfl⟩
abbrev main_call8_v6 : Ref sig .tc := ⟨.hbm, 118, rfl⟩
abbrev main_call8_v7 : Ref sig .tc := ⟨.hbm, 119, rfl⟩
abbrev main_call8_v8 : Ref sig .tc := ⟨.hbm, 120, rfl⟩
abbrev main_call8_v9 : Ref sig .tc := ⟨.hbm, 121, rfl⟩
abbrev main_call8_v10 : Ref sig .tc := ⟨.hbm, 122, rfl⟩
abbrev main_call8_v11 : Ref sig .tc := ⟨.hbm, 123, rfl⟩
abbrev main_call8_c_3 : Ref sig .tc := ⟨.hbm, 124, rfl⟩
abbrev main_call8_v12 : Ref sig .tc := ⟨.hbm, 125, rfl⟩
abbrev main_call8_v13 : Ref sig .tc := ⟨.hbm, 126, rfl⟩
abbrev main_call8_cst : Ref sig .tc := ⟨.hbm, 127, rfl⟩
abbrev main_call8_v14 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_cst_14 : Ref sig .tc := ⟨.hbm, 135, rfl⟩
abbrev main_v71 : Ref sig .tc := ⟨.hbm, 136, rfl⟩
abbrev main_cst_15 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_16 : Ref sig .tc := ⟨.hbm, 142, rfl⟩
abbrev main_cst_17 : Ref sig .tc := ⟨.hbm, 143, rfl⟩
abbrev main_call9_v0 : Ref sig .tc := ⟨.hbm, 144, rfl⟩
abbrev main_call9_v1 : Ref sig .tc := ⟨.hbm, 145, rfl⟩
abbrev main_call9_v2 : Ref sig .tc := ⟨.hbm, 146, rfl⟩
abbrev main_call9_v3 : Ref sig .tc := ⟨.hbm, 147, rfl⟩
abbrev main_call9_v4 : Ref sig .tc := ⟨.hbm, 148, rfl⟩
abbrev main_v76 : Ref sig .tc := ⟨.hbm, 149, rfl⟩
abbrev main_cst_18 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_cst_19 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_call10_v0 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_call11_cst : Ref sig .tc := ⟨.hbm, 172, rfl⟩
abbrev main_call11_v0 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_call12_cst : Ref sig .tc := ⟨.hbm, 178, rfl⟩
abbrev main_call12_v0 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_call13_cst : Ref sig .tc := ⟨.hbm, 184, rfl⟩
abbrev main_call13_v0 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_call14_cst : Ref sig .tc := ⟨.hbm, 190, rfl⟩
abbrev main_call14_v0 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_call15_cst : Ref sig .tc := ⟨.hbm, 196, rfl⟩
abbrev main_call15_v0 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_call16_cst : Ref sig .tc := ⟨.hbm, 202, rfl⟩
abbrev main_call16_v0 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_call17_cst : Ref sig .tc := ⟨.hbm, 208, rfl⟩
abbrev main_call17_v0 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_call18_cst : Ref sig .tc := ⟨.hbm, 214, rfl⟩
abbrev main_call18_v0 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_call19_cst : Ref sig .tc := ⟨.hbm, 220, rfl⟩
abbrev main_call19_v0 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_call20_cst : Ref sig .tc := ⟨.hbm, 226, rfl⟩
abbrev main_call20_v0 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_call21_cst : Ref sig .tc := ⟨.hbm, 232, rfl⟩
abbrev main_call21_v0 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_call22_cst : Ref sig .tc := ⟨.hbm, 238, rfl⟩
abbrev main_call22_v0 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_call23_cst : Ref sig .tc := ⟨.hbm, 244, rfl⟩
abbrev main_call23_v0 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_call24_cst : Ref sig .tc := ⟨.hbm, 250, rfl⟩
abbrev main_call24_v0 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_call25_cst : Ref sig .tc := ⟨.hbm, 256, rfl⟩
abbrev main_call25_v0 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_call26_cst : Ref sig .tc := ⟨.hbm, 262, rfl⟩
abbrev main_call26_v0 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_call27_cst : Ref sig .tc := ⟨.hbm, 268, rfl⟩
abbrev main_call27_v0 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_call28_cst : Ref sig .tc := ⟨.hbm, 274, rfl⟩
abbrev main_call28_v0 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_call29_cst : Ref sig .tc := ⟨.hbm, 280, rfl⟩
abbrev main_call29_v0 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_call30_cst : Ref sig .tc := ⟨.hbm, 286, rfl⟩
abbrev main_call30_v0 : Ref sig .tc := ⟨.hbm, 287, rfl⟩
abbrev main_v172 : Ref sig .tc := ⟨.hbm, 288, rfl⟩
abbrev main_v173 : Ref sig .tc := ⟨.hbm, 289, rfl⟩

abbrev nD : Nat := 1
abbrev τ : Topo := Topo.v7x

variable {F : FTy → Type} [FloatOps F]
-- ==== Proof.KernelCases.lean ====
module

public import proofs.«01_k».proof.Proof.Gen.KernelIdeal.Value
public import Idealize.ShloMosaic.Lib.Pointwise
public import Idealize.ShloMosaic.Lib.Tactic
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.KernelValue

open Cert.KernelIdeal Cert.KernelIdeal.Gen

variable {F : FTy → Type} [FloatOps F]

/-- The offsets of a whole rank-two rectangle are all zero. -/
theorem hz : (![0, 0] : Fin 2 → Nat) = fun _ => 0 := funext fun a => by fin_cases a <;> rfl

/-- After the first grid point the scratch holds the first block's product plus the bias row. -/
theorem sout_A (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (hc0 : cond0_0 i) (hc1 : ¬cond0_1 i) (hc2 : ¬cond0_2 i)
    (x0 : Vec F S2048x256 .f32) (x1 : Vec F S2048x256 .f32) (x2 : Vec F S1x2048 .f32) (x3 : Vec F S128x2048 .f32) (x4 : Vec F S64x64 .f32) (x5 : Vec F S64x128 .f32) :
    sout0_A_0 c i arg1 harg1 arg2 harg2 arg3 harg3 arg4 harg4 arg5 harg5 arg6 harg6 arg7 harg7 arg8 harg8 arg9 harg9 hc0 hc1 hc2 x0 x1 x2 x3 x4 x5 = k0_pay2 x0 x1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 hc2 x0 x1 x2 x3 x4 x5)]
  unfold kernelRun0_A
  dsimp only
  rw [View.canon_unit_zero hz]
  simp only [View.readAt_eq_ld, harg1.read_unread, harg2.read_unread, harg3.read_unread, View.ld_unit_zero (S := S2048x256) hz, View.ld_unit_zero (S := S1x2048) hz]

/-- At a middle grid point the scratch gains that block's product. -/
theorem sout_B (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (hc0 : ¬cond0_0 i) (hc1 : cond0_1 i) (hc2 : ¬cond0_2 i)
    (x0 : Vec F S2048x256 .f32) (x1 : Vec F S2048x256 .f32) (x2 : Vec F S1x2048 .f32) (x3 : Vec F S128x2048 .f32) (x4 : Vec F S64x64 .f32) (x5 : Vec F S64x128 .f32) (xs0 : Vec F S2048x2048 .f32) :
    sout0_B_0 c i arg1 harg1 arg2 harg2 arg3 harg3 arg4 harg4 arg5 harg5 arg6 harg6 arg7 harg7 arg8 harg8 arg9 harg9 hc0 hc1 hc2 x0 x1 x2 x3 x4 x5 xs0 = k0_pay3 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 hc2 x0 x1 x2 x3 x4 x5 xs0)]
  unfold kernelRun0_B
  dsimp only
  rw [View.canon_unit_zero hz]
  simp only [View.readAt_eq_ld, harg1.read_unread, harg2.read_unread, harg8.read_unread, View.ld_unit_zero (S := S2048x256) hz, View.ld_unit_zero (S := S2048x2048) hz]

/-- The four column panels of the stored matrix, 512 columns each, as the power step loads them. -/
def panel (P : Vec F S2048x2048 .bf16) (o : ℕ) (h : ∀ a, (![0, o] : Fin 2 → ℕ) a + (![2048, 512] : Fin 2 → ℕ) a ≤ S2048x2048.size a) : Vec F S2048x512 .bf16 :=
  View.ld P (Rect.unit (s := S2048x2048) ![0, o] ![2048, 512] h)

/-- One step of the power iteration: the normalised product and its norm. -/
def vStep (P : Vec F S2048x2048 .bf16) (s : FVec F S2048x1 .f32 × F .f32) : FVec F S2048x1 .f32 × F .f32 :=
  (k0_pay12 s.1 (panel P 0 inb_S2048x2048_S2048x512_0_0) (panel P 512 inb_S2048x2048_S2048x512_0_512) (panel P 1024 inb_S2048x2048_S2048x512_0_1024) (panel P 1536 inb_S2048x2048_S2048x512_0_1536),
    k0_pay11 s.1 (panel P 0 inb_S2048x2048_S2048x512_0_0) (panel P 512 inb_S2048x2048_S2048x512_0_512) (panel P 1024 inb_S2048x2048_S2048x512_0_1024) (panel P 1536 inb_S2048x2048_S2048x512_0_1536))

/-- The norm after the six power steps. -/
def lam (P : Vec F S2048x2048 .bf16) : F .f32 := ((vStep P)^[6] (k0_pay9, FloatOps.ofBits .f32 0#32)).2

/-- One halving of every row's interval. -/
def bStep (l : F .f32) (W : Vec F S64x64 .f32) (s : FVec F S64x1 .f32 × FVec F S64x1 .f32) : FVec F S64x1 .f32 × FVec F S64x1 .f32 :=
  (k0_pay20 l W s.1 s.2, k0_pay21 l W s.1 s.2)

/-- Every row's interval after the fifty halvings. -/
def bnd (l : F .f32) (W : Vec F S64x64 .f32) : FVec F S64x1 .f32 × FVec F S64x1 .f32 :=
  (bStep l W)^[50] (k0_pay16, k0_pay17 W)

/-- The value the last grid point computes from the finished matrix `M`. -/
def fin (M : Vec F S2048x2048 .f32) (x3 : Vec F S128x2048 .f32) (x4 : Vec F S64x64 .f32) (x5 : Vec F S64x128 .f32) : FVec F S2048x64 .f32 :=
  k0_pay7 ((fun X => k0_pay6 (k0_pay13 (lam (k0_pay8 M))) x4 (k0_pay15 x4)
    (k0_pay22 x4 (bnd (lam (k0_pay8 M)) x4).1 (bnd (lam (k0_pay8 M)) x4).2) x5 x3 M X (k0_pay8 M))^[19] (k0_pay5 x5 x3 M))

/-- Reading a buffer through one store of the whole of it gives what was stored. -/
theorem read_whole {S : Shape} {sp : Space} {e : EltTy} (v : View sig .tc sp S e) {off : Fin S.rank → ℕ} (h : off = fun _ => 0)
    (inb : ∀ a, off a + S.size a ≤ S.size a) (f : v.ty.Contents (Elt F)) (w : S.Idx → Elt F e) :
    v.read (Elt F) (v.writes (Elt F) f [⟨Rect.unit off S.size inb, w⟩]) = w := by
  subst h; exact View.read_writes_whole v f w

/-- The same for the second scratch, with its sizes as numerals. -/
theorem ld_arg9 (arg9 : Memref sig .tc .vmem S2048x2048 .bf16) (P : Vec F S2048x2048 .bf16) :
    arg9.view.read (Elt F) (arg9.view.writes (Elt F) arg9.view.junk [⟨Rect.unit ![0, 0] ![2048, 2048] inb_S2048x2048_S2048x2048_0_0, P⟩]) = P :=
  read_whole (S := S2048x2048) arg9.view hz _ _ _

/-- One trip of the last loop. -/
theorem trip_X (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (k0_h3 : k0_cond3 i = 1#1) (v22 : F .f32) (v23 : Vec F S64x64 .f32) (v26 : FVec F S64x1 .f32) (v49 : FVec F S64x64 .f32) (v55 : Vec F S64x128 .f32) (v56 : Vec F S128x2048 .f32) (v58 : Vec F S2048x2048 .f32) (P : Vec F S2048x2048 .bf16) (k : Fin k0_t3_loop.trips) (acc : FVec F S64x2048 .f32) :
    tripR_k0_t3 (F := F) Variants.none c none i arg1 harg1 arg2 harg2 arg3 harg3 arg4 harg4 arg5 harg5 arg6 harg6 arg7 harg7 arg8 harg8 arg9 harg9 k0_h3 v22 v23 v26 v49 v55 v56 v58 (arg9.view.writes (Elt F) arg9.view.junk [⟨Rect.unit ![0, 0] S2048x2048.size inb_S2048x2048_S2048x2048_0_0, P⟩]) k acc
      = k0_pay6 v22 v23 v26 v49 v55 v56 v58 acc P := by
  unfold tripR_k0_t3 trip_k0_t3
  dsimp only
  rw [View.readAt_eq_ld, ld_arg9, View.ld_unit_zero (S := S2048x2048) hz]

/-- One trip of the power loop. -/
theorem trip_v (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (k0_h3 : k0_cond3 i = 1#1) (P : Vec F S2048x2048 .bf16) (k : Fin k0_t1_loop.trips) (acc : FVec F S2048x1 .f32 × F .f32) :
    tripR_k0_t1 (F := F) Variants.none c none i arg1 harg1 arg2 harg2 arg3 harg3 arg4 harg4 arg5 harg5 arg6 harg6 arg7 harg7 arg8 harg8 arg9 harg9 k0_h3 (arg9.view.writes (Elt F) arg9.view.junk [⟨Rect.unit ![0, 0] S2048x2048.size inb_S2048x2048_S2048x2048_0_0, P⟩]) k acc
      = vStep P acc := by
  unfold tripR_k0_t1 trip_k0_t1
  dsimp only
  simp only [View.readAt_eq_ld, ld_arg9]
  rfl

/-- The last loop is the iterate of its trip. -/
theorem st_X (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (k0_h3 : k0_cond3 i = 1#1) (v22 : F .f32) (v23 : Vec F S64x64 .f32) (v26 : FVec F S64x1 .f32) (v49 : FVec F S64x64 .f32) (v55 : Vec F S64x128 .f32) (v56 : Vec F S128x2048 .f32) (v58 : Vec F S2048x2048 .f32) (P : Vec F S2048x2048 .bf16) (init : FVec F S64x2048 .f32) (n : ℕ) (hn : n ≤ k0_t3_loop.trips) :
    st_k0_t3 (F := F) Variants.none c none i arg1 harg1 arg2 harg2 arg3 harg3 arg4 harg4 arg5 harg5 arg6 harg6 arg7 harg7 arg8 harg8 arg9 harg9 k0_h3 v22 v23 v26 v49 v55 v56 v58 (arg9.view.writes (Elt F) arg9.view.junk [⟨Rect.unit ![0, 0] S2048x2048.size inb_S2048x2048_S2048x2048_0_0, P⟩]) init n
      = (fun X => k0_pay6 v22 v23 v26 v49 v55 v56 v58 X P)^[n] init := by
  induction n with
  | zero => rfl
  | succ n ih =>
    rw [Function.iterate_succ_apply', ← ih (by omega), ← trip_X c i arg1 harg1 arg2 harg2 arg3 harg3 arg4 harg4 arg5 harg5 arg6 harg6 arg7 harg7 arg8 harg8 arg9 harg9 k0_h3 v22 v23 v26 v49 v55 v56 v58 P ⟨n, hn⟩]
    exact st_k0_t3_succ Variants.none c none i arg1 harg1 arg2 harg2 arg3 harg3 arg4 harg4 arg5 harg5 arg6 harg6 arg7 harg7 arg8 harg8 arg9 harg9 k0_h3 v22 v23 v26 v49 v55 v56 v58 _ init ⟨n, hn⟩

/-- The power loop is the iterate of its trip. -/
theorem st_v (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (k0_h3 : k0_cond3 i = 1#1) (P : Vec F S2048x2048 .bf16) (init : FVec F S2048x1 .f32 × F .f32) (n : ℕ) (hn : n ≤ k0_t1_loop.trips) :
    st_k0_t1 (F := F) Variants.none c none i arg1 harg1 arg2 harg2 arg3 harg3 arg4 harg4 arg5 harg5 arg6 harg6 arg7 harg7 arg8 harg8 arg9 harg9 k0_h3 (arg9.view.writes (Elt F) arg9.view.junk [⟨Rect.unit ![0, 0] S2048x2048.size inb_S2048x2048_S2048x2048_0_0, P⟩]) init n = (vStep P)^[n] init := by
  induction n with
  | zero => rfl
  | succ n ih =>
    rw [Function.iterate_succ_apply', ← ih (by omega), ← trip_v c i arg1 harg1 arg2 harg2 arg3 harg3 arg4 harg4 arg5 harg5 arg6 harg6 arg7 harg7 arg8 harg8 arg9 harg9 k0_h3 P ⟨n, hn⟩]
    exact st_k0_t1_succ Variants.none c none i arg1 harg1 arg2 harg2 arg3 harg3 arg4 harg4 arg5 harg5 arg6 harg6 arg7 harg7 arg8 harg8 arg9 harg9 k0_h3 _ init ⟨n, hn⟩

/-- The last grid point adds its own block and computes the result from the finished matrix. -/
theorem out_C (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S64x64 .f32) (harg5 : arg5.IsWhole) (arg6 : Memref sig .tc .vmem S64x128 .f32) (harg6 : arg6.IsWhole) (arg7 : Memref sig .tc .vmem S2048x64 .f32) (harg7 : arg7.IsWhole) (arg8 : Memref sig .tc .vmem S2048x2048 .f32) (harg8 : arg8.IsWhole) (arg9 : Memref sig .tc .vmem S2048x2048 .bf16) (harg9 : arg9.IsWhole) (hc0 : ¬cond0_0 i) (hc1 : cond0_1 i) (hc2 : cond0_2 i)
    (x0 : Vec F S2048x256 .f32) (x1 : Vec F S2048x256 .f32) (x2 : Vec F S1x2048 .f32) (x3 : Vec F S128x2048 .f32) (x4 : Vec F S64x64 .f32) (x5 : Vec F S64x128 .f32) (xs0 : Vec F S2048x2048 .f32) :
    out0_C_6 c i arg1 harg1 arg2 harg2 arg3 harg3 arg4 harg4 arg5 harg5 arg6 harg6 arg7 harg7 arg8 harg8 arg9 harg9 hc0 hc1 hc2 x0 x1 x2 x3 x4 x5 xs0 = fin (k0_pay3 x0 x1 xs0) x3 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 hc2 x0 x1 x2 x3 x4 x5 xs0)]
  unfold kernelRun0_C
  dsimp only
  sl_unfold_words
  rw [View.canon_unit_zero hz]
  simp only [View.readAt_eq_ld, harg1.read_unread, harg2.read_unread, harg4.read_unread, harg5.read_unread, harg6.read_unread, harg8.read_unread, View.ld_unit_zero (S := S2048x256) hz, View.ld_unit_zero (S := S2048x2048) hz, View.ld_unit_zero (S := S64x128) hz, View.ld_unit_zero (S := S64x64) hz, View.ld_unit_zero (S := S128x2048) hz]
  rw [View.readCov_unit_zero (S := S2048x2048) _ hz]
  have e6 : (Scf.trips (0#32) (Scalar.addi 0#32 6#32) 1#32) = 6 := by decide
  have e19 : (Scf.trips (0#32) (Scalar.addi 0#32 19#32) 1#32) = 19 := by decide
  have t6 : 6 ≤ k0_t1_loop.trips := by decide
  have t19 : 19 ≤ k0_t3_loop.trips := by decide
  simp only [e6, e19]
  simp only [st_v (hn := t6)]
  rw [st_X (hn := t19)]
  simp only [Scf.fold_eq, List.foldl_const, List.length_finRange]
  rfl

end Cert.Proof.KernelValue
-- ==== Proof.Spec.lean ====
module

public import Idealize.ShloMosaic.PureOps.Ideal

@[expose] public section

noncomputable section

open Idealize.ShloMosaic

/-! The value both programs compute, written over plain index functions on the extended reals. -/

namespace Cert.Proof.Spec

/-- The absolute value, as the larger of a number and its negation. -/
def ab (x : EReal) : EReal := max x (-x)

/-- The scaled adjacency: `adj` times the transpose of the weights, plus the bias of each column. -/
def mat (adj sw : Fin 2048 → Fin 2048 → EReal) (b : Fin 2048 → EReal) (p q : Fin 2048) : EReal :=
  (∑ e, adj p e * sw q e) + b q

/-- The entrywise absolute value of `A` applied to `v`. -/
def mv (A : Fin 2048 → Fin 2048 → EReal) (v : Fin 2048 → EReal) (p : Fin 2048) : EReal := ∑ q, ab (A p q) * v q

/-- The Euclidean norm. -/
def nrm (w : Fin 2048 → EReal) : EReal := Ideal.sqrt (∑ q, w q * w q)

/-- The normalised vector after `n` power steps, from the constant vector of sum one. -/
def vit (A : Fin 2048 → Fin 2048 → EReal) : ℕ → Fin 2048 → EReal
  | 0 => fun _ => ((1 / 2048 : ℝ) : EReal)
  | n + 1 => fun p => Ideal.div (mv A (vit A n) p) (nrm (mv A (vit A n)) + Ideal.ofBits .f32 0x2B8CBCCC#32)

/-- The estimate of the spectral radius: the norm of the sixth product. -/
def lam (A : Fin 2048 → Fin 2048 → EReal) : EReal := nrm (mv A (vit A 5))

/-- The bound on every row's absolute sum. -/
def kv (A : Fin 2048 → Fin 2048 → EReal) : EReal :=
  Ideal.div (Ideal.ofBits .f32 0x3F666666#32) (ab (lam A) + Ideal.ofBits .f32 0x3727C5AC#32)

/-- The middle of an interval. -/
def mid (s : EReal × EReal) : EReal := ((1 / 2 : ℝ) : EReal) * (s.1 + s.2)

/-- One halving: keep the upper half when the row soft-thresholded at the middle still sums above `κ`. -/
def bstep (w : Fin 64 → EReal) (κ : EReal) (s : EReal × EReal) : EReal × EReal :=
  (if κ < ∑ x, max (w x - mid s) 0 then mid s else s.1, if κ < ∑ x, max (w x - mid s) 0 then s.2 else mid s)

/-- A row's largest entry. -/
def top (w : Fin 64 → EReal) : EReal := Finset.univ.fold max ⊥ w

/-- A row's threshold: the middle of the interval left by fifty halvings. -/
def theta (w : Fin 64 → EReal) (κ : EReal) : EReal := mid ((bstep w κ)^[50] (0, top w))

/-- The projected weights: a row whose absolute sum exceeds `κ` is soft-thresholded. -/
def proj (W : Fin 64 → Fin 64 → EReal) (κ : EReal) (i j : Fin 64) : EReal :=
  if κ < ∑ x, ab (W i x) then Ideal.sign (W i j) * max (ab (W i j) - theta (fun x => ab (W i x)) κ) 0 else W i j

/-- The injected features: `(om ft) A`. -/
def inj (om : Fin 64 → Fin 128 → EReal) (ft : Fin 128 → Fin 2048 → EReal) (A : Fin 2048 → Fin 2048 → EReal) (i : Fin 64) (q : Fin 2048) : EReal :=
  ∑ p, (∑ f, om i f * ft f p) * A p q

/-- One step of the fixed-point iteration. -/
def xstep (P : Fin 64 → Fin 64 → EReal) (A : Fin 2048 → Fin 2048 → EReal) (B X : Fin 64 → Fin 2048 → EReal) (i : Fin 64) (q : Fin 2048) : EReal :=
  max ((∑ p, (∑ r, P i r * X r p) * A p q) + B i q) 0

/-- The state from which the iteration is counted: the injected features, rectified. -/
def xstart (B : Fin 64 → Fin 2048 → EReal) (i : Fin 64) (q : Fin 2048) : EReal := max (B i q) 0

/-- The result before transposition: nineteen steps from the rectified injected features. -/
def out (W : Fin 64 → Fin 64 → EReal) (om : Fin 64 → Fin 128 → EReal) (ft : Fin 128 → Fin 2048 → EReal) (A : Fin 2048 → Fin 2048 → EReal) : Fin 64 → Fin 2048 → EReal :=
  (xstep (proj W (kv A)) A (inj om ft A))^[19] (xstart (inj om ft A))

end Cert.Proof.Spec
-- ==== Proof.KernelPay.lean ====
module

public import proofs.«01_k».proof.Proof.Gen.KernelIdeal.Skeleton
public import Idealize.ShloMosaic.Lib.Pointwise
public import Idealize.ShloMosaic.Lib.Tactic
public import proofs.«01_k».proof.Proof.KernelCases
public import proofs.«01_k».proof.Proof.Spec

@[expose] public section

set_option maxRecDepth 16384

noncomputable section

open Idealize.ShloMosaic Idealize.ShloMosaic.Pointwise

namespace Cert.Proof.KernelPay

open Cert.KernelIdeal Cert.KernelIdeal.Gen

/-- The kernel's absolute value is the larger of a number and its negation. -/
theorem absf_eq (x : Ideal .f32) : FloatOps.absf (F := Ideal) x = Spec.ab x := rfl

/-- The same at the narrow format. -/
theorem absf_eq' (x : Ideal .bf16) : FloatOps.absf (F := Ideal) x = Spec.ab x := rfl

/-- The same for a single number. -/
theorem sabsf_eq (x : Ideal .f32) : Scalar.absf (F := Ideal) x = Spec.ab x := rfl

/-- The constant one half. -/
theorem half_eq : Ideal.ofBits .f32 0x3F000000#32 = ((1 / 2 : ℝ) : EReal) := by
  simp [Ideal.ofBits, Ideal.ieee]; rw [← EReal.coe_mul]; norm_num

/-- The constant 1/2048. -/
theorem v0_eq : Ideal.ofBits .f32 0x3A000000#32 = ((1 / 2048 : ℝ) : EReal) := by
  simp [Ideal.ofBits, Ideal.ieee]; rw [← EReal.coe_mul]; norm_num

/-- The constant minus infinity. -/
theorem bot_eq : Ideal.ofBits .f32 0xFF800000#32 = ⊥ := by
  simp [Ideal.ofBits, Ideal.ieee]

/-- The constant minus one. -/
theorem neg_one_eq : Ideal.ofBits .f32 0xBF800000#32 = -1 := by
  simp [Ideal.ofBits, Ideal.ieee]; rw [← EReal.coe_mul]; norm_num

/-- The first block's product plus the bias, at an index. -/
theorem pay2_at (x0 x1 : Vec Ideal S2048x256 .f32) (x2 : Vec Ideal S1x2048 .f32) (p q : Fin 2048) :
    k0_pay2 (F := Ideal) x0 x1 x2 (ix2 p q) = (∑ k : Fin 256, x0 (ix2 p k) * x1 (ix2 q k)) + x2 (ix2 0 q) := by
  pointwise [k0_pay2, k0_pay1]

/-- A later block added to the accumulator, at an index. -/
theorem pay3_at (x0 x1 : Vec Ideal S2048x256 .f32) (acc : Vec Ideal S2048x2048 .f32) (p q : Fin 2048) :
    k0_pay3 (F := Ideal) x0 x1 acc (ix2 p q) = acc (ix2 p q) + ∑ k : Fin 256, x0 (ix2 p k) * x1 (ix2 q k) := by
  pointwise [k0_pay3, k0_pay1]

/-- The injected features, at an index. -/
theorem pay4_at (om : Vec Ideal S64x128 .f32) (ft : Vec Ideal S128x2048 .f32) (M : Vec Ideal S2048x2048 .f32) (i : Fin 64) (q : Fin 2048) :
    k0_pay4 (F := Ideal) om ft M (ix2 i q) = Spec.inj (fun i f => om (ix2 i f)) (fun f p => ft (ix2 f p)) (fun p q => M (ix2 p q)) i q := by
  unfold Spec.inj
  pointwise [k0_pay4]

/-- The start of the iteration, at an index. -/
theorem pay5_at (om : Vec Ideal S64x128 .f32) (ft : Vec Ideal S128x2048 .f32) (M : Vec Ideal S2048x2048 .f32) (i : Fin 64) (q : Fin 2048) :
    k0_pay5 (F := Ideal) om ft M (ix2 i q) = Spec.xstart (Spec.inj (fun i f => om (ix2 i f)) (fun f p => ft (ix2 f p)) (fun p q => M (ix2 p q))) i q := by
  unfold Spec.xstart
  rw [← pay4_at]
  pointwise [k0_pay5]

/-- One step of the iteration, at an index. -/
theorem pay6_at (v22 : Ideal .f32) (v23 : Vec Ideal S64x64 .f32) (v26 : FVec Ideal S64x1 .f32) (v49 : FVec Ideal S64x64 .f32) (om : Vec Ideal S64x128 .f32) (ft : Vec Ideal S128x2048 .f32) (M : Vec Ideal S2048x2048 .f32) (X : FVec Ideal S64x2048 .f32) (P : Vec Ideal S2048x2048 .bf16) (i : Fin 64) (q : Fin 2048) :
    k0_pay6 (F := Ideal) v22 v23 v26 v49 om ft M X P (ix2 i q) =
      Spec.xstep (fun i r => if v22 < v26 (ix2 i 0) then v49 (ix2 i r) else v23 (ix2 i r)) (fun p q => P (ix2 p q))
        (Spec.inj (fun i f => om (ix2 i f)) (fun f p => ft (ix2 f p)) (fun p q => M (ix2 p q))) (fun r p => X (ix2 r p)) i q := by
  unfold Spec.xstep
  rw [← pay4_at]
  pointwise [k0_pay6]

/-- The kernel's result is the transposed state. -/
theorem pay7_at (X : FVec Ideal S64x2048 .f32) (p : Fin 2048) (i : Fin 64) :
    k0_pay7 (F := Ideal) X (ix2 p i) = X (ix2 i p) := by
  pointwise [k0_pay7]

/-- The second scratch holds the matrix itself. -/
theorem pay8_at (M : Vec Ideal S2048x2048 .f32) (p q : Fin 2048) :
    k0_pay8 (F := Ideal) M (ix2 p q) = M (ix2 p q) := by
  pointwise [k0_pay8]

/-- The power iteration starts at the constant vector. -/
theorem pay9_at (p : Fin 2048) : k0_pay9 (F := Ideal) (ix2 p 0) = ((1 / 2048 : ℝ) : EReal) := by
  rw [← v0_eq]
  pointwise [k0_pay9]

/-- A sum over 2048 columns is the sum over its four panels of 512. -/
theorem sum_panels (f : Fin 2048 → EReal) :
    (∑ x : Fin 512, f ⟨x, by omega⟩) + (∑ x : Fin 512, f ⟨512 + x, by omega⟩) + (∑ x : Fin 512, f ⟨1024 + x, by omega⟩)
      + (∑ x : Fin 512, f ⟨1536 + x, by omega⟩) = ∑ x, f x := by
  have h1 := Fin.sum_univ_add (a := 1536) (b := 512) f
  have h2 := Fin.sum_univ_add (a := 1024) (b := 512) (fun x => f (Fin.castAdd 512 x))
  have h3 := Fin.sum_univ_add (a := 512) (b := 512) (fun x => f (Fin.castAdd 512 (Fin.castAdd 512 x)))
  rw [h1, h2, h3]
  rfl

/-- A column panel at an index. -/
theorem panel_at (P : Vec Ideal S2048x2048 .bf16) (o : ℕ) (h) (p : Fin 2048) (x : Fin 512) (hx : o + x.val < 2048) :
    KernelValue.panel P o h (ix2 p x) = P (ix2 p ⟨o + x, hx⟩) := by
  unfold KernelValue.panel
  pointwise

/-- One product of the power iteration, at an index. -/
theorem pay10_at (v : FVec Ideal S2048x1 .f32) (P : Vec Ideal S2048x2048 .bf16) (h0 h1 h2 h3) (p : Fin 2048) :
    k0_pay10 (F := Ideal) v (KernelValue.panel P 0 h0) (KernelValue.panel P 512 h1) (KernelValue.panel P 1024 h2) (KernelValue.panel P 1536 h3) (ix2 p 0) =
      Spec.mv (fun p q => P (ix2 p q)) (fun q => v (ix2 q 0)) p := by
  unfold Spec.mv
  rw [← sum_panels]
  pointwise [k0_pay10]
  have e0 : ∀ x : Fin 512, KernelValue.panel P 0 h0 (ix2 p x) = P (ix2 p ⟨x, by omega⟩) := fun x => by
    rw [panel_at _ _ _ _ _ (by omega)]; simp only [Nat.zero_add]
  have e1 : ∀ x : Fin 512, KernelValue.panel P 512 h1 (ix2 p x) = P (ix2 p ⟨512 + x, by omega⟩) := fun x => panel_at _ _ _ _ _ (by omega)
  have e2 : ∀ x : Fin 512, KernelValue.panel P 1024 h2 (ix2 p x) = P (ix2 p ⟨1024 + x, by omega⟩) := fun x => panel_at _ _ _ _ _ (by omega)
  have e3 : ∀ x : Fin 512, KernelValue.panel P 1536 h3 (ix2 p x) = P (ix2 p ⟨1536 + x, by omega⟩) := fun x => panel_at _ _ _ _ _ (by omega)
  simp only [absf_eq', e0, e1, e2, e3]

/-- The norm of a product. -/
theorem pay11_at (v : FVec Ideal S2048x1 .f32) (P : Vec Ideal S2048x2048 .bf16) (h0 h1 h2 h3) :
    k0_pay11 (F := Ideal) v (KernelValue.panel P 0 h0) (KernelValue.panel P 512 h1) (KernelValue.panel P 1024 h2) (KernelValue.panel P 1536 h3) =
      Spec.nrm (Spec.mv (fun p q => P (ix2 p q)) (fun q => v (ix2 q 0))) := by
  unfold Spec.nrm
  pointwise [k0_pay11]
  simp only [pay10_at, Finset.univ_unique, Finset.sum_singleton]
  rfl

/-- A normalised product, at an index. -/
theorem pay12_at (v : FVec Ideal S2048x1 .f32) (P : Vec Ideal S2048x2048 .bf16) (h0 h1 h2 h3) (p : Fin 2048) :
    k0_pay12 (F := Ideal) v (KernelValue.panel P 0 h0) (KernelValue.panel P 512 h1) (KernelValue.panel P 1024 h2) (KernelValue.panel P 1536 h3) (ix2 p 0) =
      Ideal.div (Spec.mv (fun p q => P (ix2 p q)) (fun q => v (ix2 q 0)) p)
        (Spec.nrm (Spec.mv (fun p q => P (ix2 p q)) (fun q => v (ix2 q 0))) + Ideal.ofBits .f32 0x2B8CBCCC#32) := by
  pointwise [k0_pay12]
  rw [pay10_at, pay11_at]

/-- The bound from the norm. -/
theorem pay13_at (l : Ideal .f32) :
    k0_pay13 (F := Ideal) l = Ideal.div (Ideal.ofBits .f32 0x3F666666#32) (Spec.ab l + Ideal.ofBits .f32 0x3727C5AC#32) := by
  pointwise [k0_pay13]
  rw [sabsf_eq]

/-- A row's absolute sum. -/
theorem pay15_at (W : Vec Ideal S64x64 .f32) (i : Fin 64) :
    k0_pay15 (F := Ideal) W (ix2 i 0) = ∑ x, Spec.ab (W (ix2 i x)) := by
  pointwise [k0_pay15, k0_pay14]
  rfl

/-- The lower end of every row's interval starts at zero. -/
theorem pay16_at (i : Fin 64) : k0_pay16 (F := Ideal) (ix2 i 0) = 0 := by
  pointwise [k0_pay16]

/-- The upper end of a row's interval starts at its largest entry. -/
theorem pay17_at (W : Vec Ideal S64x64 .f32) (i : Fin 64) :
    k0_pay17 (F := Ideal) W (ix2 i 0) = Spec.top (fun x => Spec.ab (W (ix2 i x))) := by
  unfold Spec.top
  rw [← bot_eq]
  pointwise [k0_pay17, k0_pay14]
  rfl

/-- One halving of a row's interval, lower end. -/
theorem pay20_at (l : Ideal .f32) (W : Vec Ideal S64x64 .f32) (lo hi : FVec Ideal S64x1 .f32) (i : Fin 64) :
    k0_pay20 (F := Ideal) l W lo hi (ix2 i 0) = (Spec.bstep (fun x => Spec.ab (W (ix2 i x))) (k0_pay13 l) (lo (ix2 i 0), hi (ix2 i 0))).1 := by
  unfold Spec.bstep Spec.mid
  rw [← half_eq]
  pointwise [k0_pay20, k0_pay19, k0_pay18, k0_pay14]
  rfl

/-- One halving of a row's interval, upper end. -/
theorem pay21_at (l : Ideal .f32) (W : Vec Ideal S64x64 .f32) (lo hi : FVec Ideal S64x1 .f32) (i : Fin 64) :
    k0_pay21 (F := Ideal) l W lo hi (ix2 i 0) = (Spec.bstep (fun x => Spec.ab (W (ix2 i x))) (k0_pay13 l) (lo (ix2 i 0), hi (ix2 i 0))).2 := by
  unfold Spec.bstep Spec.mid
  rw [← half_eq]
  pointwise [k0_pay21, k0_pay19, k0_pay18, k0_pay14]
  rfl

/-- The sign spelled by comparisons is the sign. -/
theorem sign_eq (x : EReal) : (if 0 < Spec.ab x then if x < 0 then (-1 : EReal) else 1 else x) = Ideal.sign x := by
  have hr : ∀ r : ℝ, Ideal.sign (r : EReal) = ((SignType.sign r : ℝ) : EReal) := fun _ => rfl
  induction x with
  | bot => rw [show Ideal.sign ⊥ = -1 from rfl]; simp [Spec.ab]
  | top => rw [show Ideal.sign ⊤ = 1 from rfl]; simp [Spec.ab]
  | coe r =>
    rw [hr]
    rcases lt_trichotomy r 0 with h | h | h
    · simp [Spec.ab, h]
    · simp [Spec.ab, h]
    · simp [Spec.ab, h, not_lt.mpr h.le]

/-- The soft-thresholded weights, at an index. -/
theorem pay22_at (W : Vec Ideal S64x64 .f32) (lo hi : FVec Ideal S64x1 .f32) (i j : Fin 64) :
    k0_pay22 (F := Ideal) W lo hi (ix2 i j) =
      Ideal.sign (W (ix2 i j)) * max (Spec.ab (W (ix2 i j)) - Spec.mid (lo (ix2 i 0), hi (ix2 i 0))) 0 := by
  rw [← sign_eq]
  unfold Spec.mid
  rw [← half_eq, ← neg_one_eq]
  pointwise [k0_pay22, k0_pay14]
  rfl

end Cert.Proof.KernelPay
-- ==== Proof.KernelOut.lean ====
module

public import proofs.«01_k».proof.Proof.KernelPay
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.Proof.KernelOut

open Cert.KernelIdeal Cert.KernelIdeal.Gen Cert.Proof.KernelPay

/-- The power loop's state after `n` trips: the normalised vector, and from the first trip on the norm. -/
theorem vStep_iter (P : Vec Ideal S2048x2048 .bf16) (n : ℕ) (q : Fin 2048) :
    (((KernelValue.vStep P)^[n] (k0_pay9, FloatOps.ofBits (F := Ideal) .f32 0#32)).1) (ix2 q 0) = Spec.vit (fun p q => P (ix2 p q)) n q := by
  induction n generalizing q with
  | zero => exact pay9_at q
  | succ n ih =>
    rw [Function.iterate_succ_apply']
    show k0_pay12 _ _ _ _ _ (ix2 q 0) = _
    rw [pay12_at]
    simp only [ih]
    rfl

/-- The loop's norm is the estimate of the spectral radius. -/
theorem lam_eq (P : Vec Ideal S2048x2048 .bf16) : KernelValue.lam P = Spec.lam (fun p q => P (ix2 p q)) := by
  unfold KernelValue.lam
  rw [Function.iterate_succ_apply']
  show k0_pay11 (F := Ideal) _ _ _ _ _ = _
  rw [pay11_at]
  simp only [vStep_iter]
  rfl

/-- The bound the kernel divides out. -/
theorem kv_eq (P : Vec Ideal S2048x2048 .bf16) : k0_pay13 (KernelValue.lam P) = Spec.kv (fun p q => P (ix2 p q)) := by
  rw [pay13_at, lam_eq]; rfl

/-- A row's interval after the halvings. -/
theorem bnd_iter (l : Ideal .f32) (W : Vec Ideal S64x64 .f32) (i : Fin 64) (n : ℕ) :
    (((KernelValue.bStep l W)^[n] (k0_pay16, k0_pay17 W)).1 (ix2 i 0), ((KernelValue.bStep l W)^[n] (k0_pay16, k0_pay17 W)).2 (ix2 i 0))
      = (Spec.bstep (fun x => Spec.ab (W (ix2 i x))) (k0_pay13 l))^[n] (0, Spec.top (fun x => Spec.ab (W (ix2 i x)))) := by
  induction n with
  | zero => exact Prod.ext (pay16_at i) (pay17_at W i)
  | succ n ih =>
    rw [Function.iterate_succ_apply', Function.iterate_succ_apply', ← ih]
    exact Prod.ext (pay20_at _ _ _ _ i) (pay21_at _ _ _ _ i)

/-- The projected weights the last loop multiplies by. -/
theorem proj_eq (P : Vec Ideal S2048x2048 .bf16) (W : Vec Ideal S64x64 .f32) (i j : Fin 64) :
    (if k0_pay13 (KernelValue.lam P) < k0_pay15 W (ix2 i 0) then
      k0_pay22 W (KernelValue.bnd (KernelValue.lam P) W).1 (KernelValue.bnd (KernelValue.lam P) W).2 (ix2 i j) else W (ix2 i j))
      = Spec.proj (fun i j => W (ix2 i j)) (Spec.kv (fun p q => P (ix2 p q))) i j := by
  rw [pay15_at, pay22_at, kv_eq]
  unfold Spec.proj Spec.theta KernelValue.bnd
  rw [bnd_iter, kv_eq]

/-- The last grid point's value is the specification's at the finished matrix. -/
theorem fin_at (M : Vec Ideal S2048x2048 .f32) (ft : Vec Ideal S128x2048 .f32) (W : Vec Ideal S64x64 .f32) (om : Vec Ideal S64x128 .f32) (p : Fin 2048) (i : Fin 64) :
    KernelValue.fin M ft W om (ix2 p i) =
      Spec.out (fun i j => W (ix2 i j)) (fun i f => om (ix2 i f)) (fun f p => ft (ix2 f p)) (fun p q => M (ix2 p q)) i p := by
  unfold KernelValue.fin Spec.out
  rw [pay7_at]
  generalize 19 = n
  induction n generalizing i p with
  | zero => exact pay5_at _ _ _ _ _
  | succ n ih =>
    rw [Function.iterate_succ_apply', Function.iterate_succ_apply', pay6_at]
    simp only [proj_eq, ih, pay8_at]

end Cert.Proof.KernelOut
-- ==== Proof.KernelRun.lean ====
module

public import proofs.«01_k».proof.Proof.KernelOut
public import Idealize.ShloMosaic.Lib.Pipeline.ValueKit

@[expose] public section

set_option maxRecDepth 16384

noncomputable section

open Idealize.ShloMosaic Idealize.ShloMosaic.TcCoe Idealize.SL.Sem Idealize.ShloMosaic.Pointwise
open Idealize.ShloMosaic.Pipeline (Dat)

namespace Cert.Proof.KernelRun

open Cert.KernelIdeal Cert.KernelIdeal.Gen Cert.KernelIdeal.Value Cert.Proof.KernelPay

variable (m : (ℓ : Loc nD τ sig) → Buf (Elt Ideal) ℓ)

/-- Which block each window shows at each grid point. -/
theorem idx : ∀ t : Fin cfg0.N, win0_0.index t = ![0, t.val] ∧ win0_1.index t = ![0, t.val] ∧ win0_2.index t = ![0, 0]
    ∧ win0_3.index t = ![0, 0] ∧ win0_4.index t = ![0, 0] ∧ win0_5.index t = ![0, 0] := by
  decide +kernel

/-- There are eight grid points. -/
theorem ltN (t : Fin cfg0.N) : t.val < 8 := lt_of_lt_of_eq t.isLt (show cfg0.N = 8 from N_0)

/-- The adjacency's block at a grid point. -/
theorem blk_adj (c : Dev nD) (t : Fin cfg0.N) (p : Fin 2048) (k : Fin 256) :
    (iblk m c 0 t : Vec Ideal S2048x256 .f32) (ix2 p k) = (m ((c : Thread nD τ).loc main_arg1) : Vec Ideal S2048x2048 .f32) (ix2 p ⟨256 * t.val + k, by have := ltN t; omega⟩) := by
  blk_ext! [iblk, V, idx t]

/-- The weights' block at a grid point. -/
theorem blk_sw (c : Dev nD) (t : Fin cfg0.N) (p : Fin 2048) (k : Fin 256) :
    (iblk m c 1 t : Vec Ideal S2048x256 .f32) (ix2 p k) = (m ((c : Thread nD τ).loc main_arg5) : Vec Ideal S2048x2048 .f32) (ix2 p ⟨256 * t.val + k, by have := ltN t; omega⟩) := by
  blk_ext! [iblk, V, idx t]

/-- The bias row. -/
theorem blk_b (c : Dev nD) (t : Fin cfg0.N) (q : Fin 2048) :
    (iblk m c 2 t : Vec Ideal S1x2048 .f32) (ix2 0 q) = (m ((c : Thread nD τ).loc main_arg6) : Vec Ideal S2048 .f32) (ix1 q) := by
  blk_ext! [iblk, V, idx t]

/-- The features, whole. -/
theorem blk_ft (c : Dev nD) (t : Fin cfg0.N) (f : Fin 128) (q : Fin 2048) :
    (iblk m c 3 t : Vec Ideal S128x2048 .f32) (ix2 f q) = (m ((c : Thread nD τ).loc main_arg0) : Vec Ideal S128x2048 .f32) (ix2 f q) := by
  blk_ext! [iblk, V, idx t]

/-- The weights to project, whole. -/
theorem blk_W (c : Dev nD) (t : Fin cfg0.N) (i j : Fin 64) :
    (iblk m c 4 t : Vec Ideal S64x64 .f32) (ix2 i j) = (m ((c : Thread nD τ).loc main_arg2) : Vec Ideal S64x64 .f32) (ix2 i j) := by
  blk_ext! [iblk, V, idx t]

/-- The input weights, whole. -/
theorem blk_om (c : Dev nD) (t : Fin cfg0.N) (i : Fin 64) (f : Fin 128) :
    (iblk m c 5 t : Vec Ideal S64x128 .f32) (ix2 i f) = (m ((c : Thread nD τ).loc main_arg3) : Vec Ideal S64x128 .f32) (ix2 i f) := by
  blk_ext! [iblk, V, idx t]

/-- The adjacency of device `c`, as a plain function of its indices. -/
def adj (c : Dev nD) (p q : Fin 2048) : EReal := (m ((c : Thread nD τ).loc main_arg1) : Vec Ideal S2048x2048 .f32) (ix2 p q)
/-- The scaling weights of device `c`, as a plain function of its indices. -/
def sw (c : Dev nD) (p q : Fin 2048) : EReal := (m ((c : Thread nD τ).loc main_arg5) : Vec Ideal S2048x2048 .f32) (ix2 p q)
/-- The scaling bias of device `c`, as a plain function of its indices. -/
def sb (c : Dev nD) (q : Fin 2048) : EReal := (m ((c : Thread nD τ).loc main_arg6) : Vec Ideal S2048 .f32) (ix1 q)
/-- The features of device `c`, as a plain function of its indices. -/
def ft (c : Dev nD) (f : Fin 128) (q : Fin 2048) : EReal := (m ((c : Thread nD τ).loc main_arg0) : Vec Ideal S128x2048 .f32) (ix2 f q)
/-- The weights to project of device `c`, as a plain function of its indices. -/
def W (c : Dev nD) (i j : Fin 64) : EReal := (m ((c : Thread nD τ).loc main_arg2) : Vec Ideal S64x64 .f32) (ix2 i j)
/-- The input weights of device `c`, as a plain function of its indices. -/
def om (c : Dev nD) (i : Fin 64) (f : Fin 128) : EReal := (m ((c : Thread nD τ).loc main_arg3) : Vec Ideal S64x128 .f32) (ix2 i f)

/-- What block `t` adds to the matrix at an index. -/
def part (c : Dev nD) (p q : Fin 2048) (t : Fin 8) : EReal :=
  ∑ k : Fin 256, adj m c p ⟨256 * t.val + k, by omega⟩ * sw m c q ⟨256 * t.val + k, by omega⟩

/-- One block's product at an index, from the staged blocks. -/
theorem part_eq (c : Dev nD) (t : Fin cfg0.N) (x0 x1 : Vec Ideal S2048x256 .f32) (h0 : x0 = iblk m c 0 t) (h1 : x1 = iblk m c 1 t) (p q : Fin 2048) :
    (∑ k : Fin 256, x0 (ix2 p k) * x1 (ix2 q k)) = part m c p q ⟨t.val, ltN t⟩ :=
  Finset.sum_congr rfl fun k _ => by rw [h0, h1, blk_adj, blk_sw]; rfl

/-- The scratch after the point `n`, before the last: the bias plus the first `n + 1` blocks. -/
theorem scratch (c : Dev nD) (p q : Fin 2048) : ∀ (n : ℕ) (h : 0 + n < cfg0.N), n < 7 →
    (Pipeline.accAt (fun n h => stAt0 m c n h junk0) (stAt0 m c) 0 n h).2 (ix2 p q)
      = sb m c q + ∑ t : Fin (n + 1), part m c p q ⟨t.val % 8, Nat.mod_lt _ (by decide)⟩
  | 0, h, _ => by
    rw [Pipeline.accAt_zero]
    have e := stAt0_A m c ⟨0, h⟩ junk0 (by rfl) (by simp) (by simp)
    dsimp only at e ⊢
    rw [e]
    dsimp only
    rw [KernelValue.sout_A, pay2_at, part_eq m c ⟨0, h⟩ _ _ rfl rfl, blk_b, add_comm]
    simp [sb]
  | n + 1, h, hn => by
    have hN : n + 1 < cfg0.N := by omega
    rw [Pipeline.accAt_succ]
    have ih := scratch c p q n (Nat.lt_of_succ_lt h) (by omega)
    generalize Pipeline.accAt (fun n h => stAt0 m c n h junk0) (stAt0 m c) 0 n (Nat.lt_of_succ_lt h) = acc at ih ⊢
    have e := stAt0_B m c ⟨0 + (n + 1), h⟩ acc (by dsimp only; omega) (by dsimp only; omega) (by dsimp only; omega)
    dsimp only at e ⊢
    rw [e]
    dsimp only
    rw [KernelValue.sout_B, pay3_at, part_eq m c ⟨0 + (n + 1), h⟩ _ _ rfl rfl, ih, Fin.sum_univ_castSucc (n := n + 1), add_assoc]
    congr 2
    simp only [Fin.val_last]
    congr 1
    apply Fin.ext
    show 0 + (n + 1) = (n + 1) % 8
    omega

/-- The eight blocks make up the whole product. -/
theorem parts_sum (c : Dev nD) (p q : Fin 2048) : ∑ t, part m c p q t = ∑ e, adj m c p e * sw m c q e := by
  have e := Fin.sum_univ_univ_mul_add 8 256 (fun n => if h : n < 2048 then adj m c p ⟨n, h⟩ * sw m c q ⟨n, h⟩ else 0)
  have e2 : ∀ (t : Fin 8) (k : Fin 256), (if h : t.val * 256 + k.val < 2048 then adj m c p ⟨t.val * 256 + k.val, h⟩ * sw m c q ⟨t.val * 256 + k.val, h⟩ else 0)
      = adj m c p ⟨256 * t.val + k, by omega⟩ * sw m c q ⟨256 * t.val + k, by omega⟩ := fun t k => by
    rw [dif_pos (by omega)]
    congr 2 <;> (apply Fin.ext; show t.val * 256 + k.val = 256 * t.val + k.val; omega)
  simp only [e2] at e
  unfold part
  rw [e]
  exact Finset.sum_congr rfl fun l _ => dif_pos l.isLt

/-- The finished matrix, at an index. -/
theorem matrix (c : Dev nD) (acc : Vec Ideal S2048x2048 .f32) (t : Fin cfg0.N) (ht : t.val = 7)
    (hacc : ∀ p q : Fin 2048, acc (ix2 p q) = sb m c q + ∑ t : Fin 7, part m c p q ⟨t.val % 8, Nat.mod_lt _ (by decide)⟩) (p q : Fin 2048) :
    k0_pay3 (F := Ideal) (iblk m c 0 t) (iblk m c 1 t) acc (ix2 p q) = Spec.mat (adj m c) (sw m c) (sb m c) p q := by
  rw [pay3_at, part_eq m c t _ _ rfl rfl, hacc, add_assoc, add_comm]
  unfold Spec.mat
  rw [← parts_sum, Fin.sum_univ_castSucc (n := 7)]
  exact congrArg (· + sb m c q) (congrArg₂ (· + ·) (Finset.sum_congr rfl fun x _ => congrArg (part m c p q) (Fin.ext (Nat.mod_eq_of_lt (by omega))))
    (congrArg (part m c p q) (Fin.ext ht)))

/-- What the last point leaves in the output, from a scratch that holds the bias and the first seven blocks. -/
theorem last (c : Dev nD) (t : Fin cfg0.N) (ht : t.val = 7) (acc : Vec Ideal S2048x64 .f32 × Vec Ideal S2048x2048 .f32)
    (hacc : ∀ p q : Fin 2048, acc.2 (ix2 p q) = sb m c q + ∑ t : Fin 7, part m c p q ⟨t.val % 8, Nat.mod_lt _ (by decide)⟩) (p : Fin 2048) (i : Fin 64) :
    (stAt0 m c t.val t.isLt acc).1 (ix2 p i) = Spec.out (W m c) (om m c) (ft m c) (Spec.mat (adj m c) (sw m c) (sb m c)) i p := by
  rw [stAt0_C m c t acc (by omega) (by omega) (by omega)]
  dsimp only
  rw [KernelValue.out_C, KernelOut.fin_at]
  have hM : (fun p q : Fin 2048 => k0_pay3 (F := Ideal) (iblk m c 0 t) (iblk m c 1 t) acc.2 (ix2 p q)) = Spec.mat (adj m c) (sw m c) (sb m c) :=
    funext fun p => funext fun q => matrix m c acc.2 t ht hacc p q
  have hW : (fun i j : Fin 64 => (iblk m c 4 t : Vec Ideal S64x64 .f32) (ix2 i j)) = W m c := funext fun i => funext fun j => blk_W m c t i j
  have hom : (fun (i : Fin 64) (f : Fin 128) => (iblk m c 5 t : Vec Ideal S64x128 .f32) (ix2 i f)) = om m c := funext fun i => funext fun j => blk_om m c t i j
  have hft : (fun (f : Fin 128) (q : Fin 2048) => (iblk m c 3 t : Vec Ideal S128x2048 .f32) (ix2 f q)) = ft m c := funext fun i => funext fun j => blk_ft m c t i j
  rw [hM]
  exact congrArg (fun f : Fin 64 → Fin 2048 → EReal => f i p) (congrFun (congr (congr (congrArg Spec.out hW) hom) hft) _)

/-- The fold of the grid points up to the last one, at an index of the output. -/
theorem fold_at (c : Dev nD) (p : Fin 2048) (i : Fin 64) : ∀ (n : ℕ) (h : 0 + n < cfg0.N), n = 7 →
    (Pipeline.accAt (fun n h => stAt0 m c n h junk0) (stAt0 m c) 0 n h).1 (ix2 p i)
      = Spec.out (W m c) (om m c) (ft m c) (Spec.mat (adj m c) (sw m c) (sb m c)) i p
  | 0, _, h => absurd h (by decide)
  | n + 1, h, hn => by
    obtain rfl : n = 6 := by omega
    rw [Pipeline.accAt_succ]
    exact last m c ⟨0 + (6 + 1), h⟩ (by simp) _ (fun p q => scratch m c p q 6 (Nat.lt_of_succ_lt h) (by decide)) p i

/-- The kernel's result at an index. -/
theorem G6_at (c : Dev nD) (p : Fin 2048) (i : Fin 64) :
    (G6 m c : Vec Ideal S2048x64 .f32) (ix2 p i) = Spec.out (W m c) (om m c) (ft m c) (Spec.mat (adj m c) (sw m c) (sb m c)) i p := by
  rw [G6_last]
  exact fold_at m c p i 7 _ rfl

end Cert.Proof.KernelRun
-- ==== Proof.RefRead.lean ====
module

public import proofs.«01_k».proof.Proof.Gen.ReferenceIdeal.Run
public import proofs.«01_k».proof.Proof.Spec
public import Idealize.ShloMosaic.Lib.Pointwise
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem Idealize.ShloMosaic.Pointwise

namespace Cert.Proof.RefRead

open Cert.ReferenceIdeal Cert.ReferenceIdeal.Gen Cert.ReferenceIdeal.Value

variable (V0 : Valuation τ sig (Elt Ideal))

/-- The adjacency, as a plain function of its indices. -/
def adj (p q : Fin 2048) : EReal := (V0 (Proc.devRef .tc main_arg1) : Vec Ideal S2048x2048 .f32) (ix2 p q)

/-- The scaling weights, as a plain function of their indices. -/
def sw (p q : Fin 2048) : EReal := (V0 (Proc.devRef .tc main_arg5) : Vec Ideal S2048x2048 .f32) (ix2 p q)

/-- The scaling bias, as a plain function of its index. -/
def sb (q : Fin 2048) : EReal := (V0 (Proc.devRef .tc main_arg6) : Vec Ideal S2048 .f32) (ix1 q)

/-- The features, as a plain function of their indices. -/
def ft (f : Fin 128) (q : Fin 2048) : EReal := (V0 (Proc.devRef .tc main_arg0) : Vec Ideal S128x2048 .f32) (ix2 f q)

/-- The weights to project, as a plain function of their indices. -/
def W (i j : Fin 64) : EReal := (V0 (Proc.devRef .tc main_arg2) : Vec Ideal S64x64 .f32) (ix2 i j)

/-- The input weights, as a plain function of their indices. -/
def om (i : Fin 64) (f : Fin 128) : EReal := (V0 (Proc.devRef .tc main_arg3) : Vec Ideal S64x128 .f32) (ix2 i f)

/-- The starting state, as a plain function of its indices. -/
def x0 (i : Fin 64) (q : Fin 2048) : EReal := (V0 (Proc.devRef .tc main_arg4) : Vec Ideal S64x2048 .f32) (ix2 i q)

/-- The scaled adjacency of these arguments. -/
def A (p q : Fin 2048) : EReal := Spec.mat (adj V0) (sw V0) (sb V0) p q

/-- The matrix the reference multiplies by. -/
theorem v4_at (p q : Fin 2048) : (res_main_v4 V0 : Vec Ideal S2048x2048 .f32) (ix2 p q) = A V0 p q := by
  unfold res_main_v4 A Spec.mat adj sw sb
  clean_types
  pointwise

/-- The absolute value, as the machine spells it. -/
theorem absf_eq (x : EReal) : FloatOps.absf (F := Ideal) (φ := .f32) x = Spec.ab x := rfl

/-- Dividing one by 2048. -/
theorem inv2048 : Ideal.div 1 (Ideal.ofBits .f32 0x45000000#32) = ((1 / 2048 : ℝ) : EReal) := by
  have h : Ideal.ofBits .f32 0x45000000#32 = ((2048 : ℝ) : EReal) := by
    simp [Ideal.ofBits, Ideal.ieee]; rw [← EReal.coe_mul]; norm_num
  rw [h, Ideal.div_coe (by norm_num), one_mul]

/-- The absolute value of that matrix. -/
theorem v5_at (p q : Fin 2048) : (res_main_v5 V0 : Vec Ideal S2048x2048 .f32) (ix2 p q) = Spec.ab (A V0 p q) := by
  unfold res_main_v5
  rw [← v4_at]
  clean_types
  pointwise
  exact absf_eq _

/-- The first product of the power iteration. -/
theorem v9_at (p : Fin 2048) : (res_main_v9 V0 : Vec Ideal S2048 .f32) (ix1 p) = Spec.mv (A V0) (Spec.vit (A V0) 0) p := by
  unfold res_main_v9 Spec.mv Spec.vit
  simp only [← v5_at]
  clean_types
  pointwise
  rw [inv2048]

/-- The second product of the power iteration. -/
theorem v14_at (p : Fin 2048) : (res_main_v14 V0 : Vec Ideal S2048 .f32) (ix1 p) = Spec.mv (A V0) (Spec.vit (A V0) 1) p := by
  unfold res_main_v14
  rw [Spec.vit]
  unfold Spec.nrm
  simp only [← v9_at]
  unfold Spec.mv
  simp only [← v5_at]
  clean_types
  pointwise

/-- The third product of the power iteration. -/
theorem v19_at (p : Fin 2048) : (res_main_v19 V0 : Vec Ideal S2048 .f32) (ix1 p) = Spec.mv (A V0) (Spec.vit (A V0) 2) p := by
  unfold res_main_v19
  rw [Spec.vit]
  unfold Spec.nrm
  simp only [← v14_at]
  unfold Spec.mv
  simp only [← v5_at]
  clean_types
  pointwise

/-- The fourth product of the power iteration. -/
theorem v24_at (p : Fin 2048) : (res_main_v24 V0 : Vec Ideal S2048 .f32) (ix1 p) = Spec.mv (A V0) (Spec.vit (A V0) 3) p := by
  unfold res_main_v24
  rw [Spec.vit]
  unfold Spec.nrm
  simp only [← v19_at]
  unfold Spec.mv
  simp only [← v5_at]
  clean_types
  pointwise

/-- The fifth product of the power iteration. -/
theorem v29_at (p : Fin 2048) : (res_main_v29 V0 : Vec Ideal S2048 .f32) (ix1 p) = Spec.mv (A V0) (Spec.vit (A V0) 4) p := by
  unfold res_main_v29
  rw [Spec.vit]
  unfold Spec.nrm
  simp only [← v24_at]
  unfold Spec.mv
  simp only [← v5_at]
  clean_types
  pointwise

/-- The sixth product of the power iteration. -/
theorem v34_at (p : Fin 2048) : (res_main_v34 V0 : Vec Ideal S2048 .f32) (ix1 p) = Spec.mv (A V0) (Spec.vit (A V0) 5) p := by
  unfold res_main_v34
  rw [Spec.vit]
  unfold Spec.nrm
  simp only [← v29_at]
  unfold Spec.mv
  simp only [← v5_at]
  clean_types
  pointwise

/-- The estimate of the spectral radius. -/
theorem v35_at (u) : (res_main_v35 V0 : Vec Ideal S_ .f32) u = Spec.lam (A V0) := by
  unfold res_main_v35 Spec.lam Spec.nrm
  simp only [← v34_at]
  clean_types
  pointwise

/-- The bound on a row's absolute sum. -/
theorem v41_at (u) : (res_main_v41 V0 : Vec Ideal S_ .f32) u = Spec.kv (A V0) := by
  unfold res_main_v41 Spec.kv
  rw [← v35_at V0 u]
  clean_types
  pointwise
  rw [absf_eq]

/-- The absolute values of the weights to project. -/
theorem v42_at (i j : Fin 64) : (res_main_v42 V0 : Vec Ideal S64x64 .f32) (ix2 i j) = Spec.ab (W V0 i j) := by
  unfold res_main_v42 W
  clean_types
  pointwise
  exact absf_eq _

/-- The input's contribution, added at every step. -/
theorem v92_at (i : Fin 64) (q : Fin 2048) : (res_main_v92 V0 : Vec Ideal S64x2048 .f32) (ix2 i q) = Spec.inj (om V0) (ft V0) (A V0) i q := by
  unfold res_main_v92 Spec.inj om ft
  simp only [← v4_at]
  clean_types
  pointwise

/-- One step of the fixed-point iteration, as the reference's operations compose it. -/
def rstep (P : FVec Ideal S64x64 .f32) (M : FVec Ideal S2048x2048 .f32) (B X : FVec Ideal S64x2048 .f32) : FVec Ideal S64x2048 .f32 :=
  maximumf (F := Ideal) (addf (Host.dotGeneral dot_S64x2048_S2048x2048_S64x2048_1_0_0_1_n_n none (Host.dotGeneral dot_S64x64_S64x2048_S64x2048_1_0_0_1_n_n none P X) M) B)
    (broadcastInDim S64x2048 ![] bcast_S_S64x2048 (constant S_ .f32 0x00000000#32))

/-- That step read at an index is the plain step. -/
theorem rstep_at (P : FVec Ideal S64x64 .f32) (M : FVec Ideal S2048x2048 .f32) (B X : FVec Ideal S64x2048 .f32) (i : Fin 64) (q : Fin 2048) :
    rstep P M B X (ix2 i q) = Spec.xstep (fun i r => P (ix2 i r)) (fun p q => M (ix2 p q)) (fun i q => B (ix2 i q)) (fun i q => X (ix2 i q)) i q := by
  unfold rstep Spec.xstep
  pointwise

/-- Any number of those steps read at an index. -/
theorem rsteps_at (P : FVec Ideal S64x64 .f32) (M : FVec Ideal S2048x2048 .f32) (B X : FVec Ideal S64x2048 .f32) (n : Nat) :
    (fun i q => (rstep P M B)^[n] X (ix2 i q)) =
      (Spec.xstep (fun i r => P (ix2 i r)) (fun p q => M (ix2 p q)) (fun i q => B (ix2 i q)))^[n] (fun i q => X (ix2 i q)) := by
  induction n with
  | zero => rfl
  | succ n ih =>
    rw [Function.iterate_succ_apply', Function.iterate_succ_apply', ← ih]
    funext i q
    exact rstep_at P M B _ i q

/-- The product in the middle of the iteration is the projected weights times fourteen steps. -/
theorem v149_eq : (res_main_v149 V0 : FVec Ideal S64x2048 .f32) = Host.dotGeneral (F := Ideal) (φ₁ := .f32) (φ₂ := .f32) dot_S64x64_S64x2048_S64x2048_1_0_0_1_n_n none (res_main_v90 V0)
    ((rstep (res_main_v90 V0) (res_main_v4 V0) (res_main_v92 V0))^[14] (V0 (Proc.devRef .tc main_arg4))) := rfl

end Cert.Proof.RefRead
-- ==== Proof.Threshold.lean ====
/-
  The threshold of the l1-ball projection, over the reals: sorting the row and cutting at the last index whose
  entry exceeds its running threshold gives the one `θ` with `κ < ∑ max (αⱼ − t) 0 ↔ t < θ`, and repeated halving of
  an interval that contains `θ` ends with the middle of the cell of `θ` in the equal division of that interval.
-/
module

public import Idealize.ShloMosaic.PureOps.Ideal
public import Mathlib.Algebra.BigOperators.Intervals
public import Mathlib.Algebra.Order.Floor.Ring
public import Mathlib.Tactic.Linarith
public import Mathlib.Tactic.Positivity
public import Mathlib.Tactic.FieldSimp

@[expose] public section

namespace Cert.Proof.Threshold

open Finset

/-- A predicate on `ℕ` that passes from each index to the one before it holds, below `n`, exactly on an initial
    segment, whose length is the number of indices where it holds. -/
theorem prefix_card (p : ℕ → Prop) [DecidablePred p] (n : ℕ) (hp : ∀ k, k + 1 < n → p (k + 1) → p k) :
    ∀ k, k < n → (p k ↔ k < ((range n).filter p).card) := by
  induction n with
  | zero => intro k hk; omega
  | succ n ih =>
    have ih' := ih fun k hk => hp k (by omega)
    intro k hk
    rw [range_add_one, filter_insert]
    by_cases hn : p n
    · -- it holds at the last index, so everywhere
      have hall : ∀ d, d ≤ n → p (n - d) := by
        intro d
        induction d with
        | zero => intro _; simpa using hn
        | succ d ihd =>
          intro hd
          have h1 := ihd (by omega)
          have h2 : n - d = (n - (d + 1)) + 1 := by omega
          rw [h2] at h1
          exact hp _ (by omega) h1
      have hfull : (range n).filter p = range n := by
        refine filter_true_of_mem fun i hi => ?_
        have hi' := mem_range.mp hi
        have h3 := hall (n - i) (by omega)
        rwa [show n - (n - i) = i by omega] at h3
      rw [if_pos hn, card_insert_of_notMem (by simp), hfull, card_range]
      have hk' := hall (n - k) (by omega)
      rw [show n - (n - k) = k by omega] at hk'
      exact ⟨fun _ => by omega, fun _ => hk'⟩
    · rw [if_neg hn]
      by_cases hkn : k < n
      · exact ih' k hkn
      · have hkn' : k = n := by omega
        subst hkn'
        refine ⟨fun h => absurd h hn, fun h => ?_⟩
        have := card_filter_le (range k) p
        rw [card_range] at this
        omega

variable (u : ℕ → ℝ) (κ : ℝ) (n : ℕ)

/-- Entry `k` exceeds the threshold that cutting after it would give. -/
def cond (k : ℕ) : Prop := 0 < u k - (∑ i ∈ range (k + 1), u i - κ) / ((k : ℝ) + 1)

/-- The number of entries of a sorted row that exceed their own threshold. -/
noncomputable def count : ℕ := by
  classical exact ((range n).filter (cond u κ)).card

/-- The number of entries kept: at least one. -/
noncomputable def rho : ℕ := max (count u κ n) 1

/-- The threshold that cutting after `rho` entries gives. -/
noncomputable def theta : ℝ := (∑ i ∈ range (rho u κ n), u i - κ) / (rho u κ n : ℝ)

/-- The condition without its division. -/
theorem cond_iff (k : ℕ) : cond u κ k ↔ ∑ i ∈ range (k + 1), u i - κ < u k * ((k : ℝ) + 1) := by
  unfold cond
  have hk : (0 : ℝ) < (k : ℝ) + 1 := by positivity
  rw [sub_pos, div_lt_iff₀ hk]

/-- On a nonincreasing row the condition passes from each entry to the one before it. -/
theorem cond_prev (hu : ∀ k, k + 1 < n → u (k + 1) ≤ u k) (k : ℕ) (hk : k + 1 < n) (h : cond u κ (k + 1)) :
    cond u κ k := by
  rw [cond_iff] at h ⊢
  rw [sum_range_succ] at h
  push_cast at h
  have h1 := hu k hk
  have hk0 : (0 : ℝ) ≤ (k : ℝ) + 1 := by positivity
  nlinarith [mul_le_mul_of_nonneg_right h1 hk0]

/-- The condition holds exactly at the first `count` entries. -/
theorem cond_iff_lt (hu : ∀ k, k + 1 < n → u (k + 1) ≤ u k) (k : ℕ) (hk : k < n) :
    cond u κ k ↔ k < count u κ n := by
  classical
  have := prefix_card (cond u κ) n (cond_prev u κ n hu) k hk
  unfold count
  convert this

/-- The count is at most the length. -/
theorem count_le : count u κ n ≤ n := by
  classical
  unfold count
  exact (card_filter_le _ _).trans (by rw [card_range])

/-- The clamped count is positive. -/
theorem rho_pos : 0 < rho u κ n := by unfold rho; omega

/-- The clamped count is at most the length of a row that is not empty. -/
theorem rho_le (hn : 0 < n) : rho u κ n ≤ n := by
  have := count_le u κ n
  unfold rho
  omega

/-- A nonincreasing row is nonincreasing between any two of its indices. -/
theorem anti (hu : ∀ k, k + 1 < n → u (k + 1) ≤ u k) {i j : ℕ} (hij : i ≤ j) (hj : j < n) : u j ≤ u i := by
  induction j, hij using Nat.le_induction with
  | base => exact le_rfl
  | succ j hij ih => exact (hu j hj).trans (ih (by omega))

/-- THE THRESHOLD OF THE SORT: for a nonincreasing row and a level `κ ≥ 0`, the total of what exceeds `t` is above `κ`
    exactly for the `t` below `theta`. -/
theorem lt_sum_iff (hn : 0 < n) (hu : ∀ k, k + 1 < n → u (k + 1) ≤ u k) (hκ : 0 ≤ κ) (t : ℝ) :
    κ < ∑ i ∈ range n, max (u i - t) 0 ↔ t < theta u κ n := by
  have hρ := rho_pos u κ n
  have hρn := rho_le u κ n hn
  have hρR : (0 : ℝ) < (rho u κ n : ℝ) := by exact_mod_cast hρ
  have hθ : theta u κ n * (rho u κ n : ℝ) = ∑ i ∈ range (rho u κ n), u i - κ := by
    unfold theta; field_simp
  constructor
  · -- the other direction: at `t ≥ θ` the total is at most `κ`
    intro hlt
    by_contra hge
    rw [not_lt] at hge
    have hmono : ∑ i ∈ range n, max (u i - t) 0 ≤ ∑ i ∈ range n, max (u i - theta u κ n) 0 :=
      sum_le_sum fun i _ => max_le_max (by linarith) le_rfl
    have hbelow : ∀ i, i < rho u κ n → theta u κ n ≤ u i := by
      intro i hi
      refine le_trans ?_ (anti u n hu (Nat.le_sub_one_of_lt hi) (by omega))
      rcases Nat.eq_zero_or_pos (count u κ n) with h0 | h0
      · have hr1 : rho u κ n = 1 := by unfold rho; omega
        have hc : ¬ cond u κ 0 := by
          rw [cond_iff_lt u κ n hu 0 hn]; omega
        rw [cond_iff] at hc
        rw [hr1] at hθ ⊢
        simp at hc hθ ⊢
        linarith
      · have hr : rho u κ n = count u κ n := by unfold rho; omega
        have hc : cond u κ (rho u κ n - 1) := by
          rw [cond_iff_lt u κ n hu _ (by omega)]; omega
        rw [cond_iff, show rho u κ n - 1 + 1 = rho u κ n by omega] at hc
        have hcast : ((rho u κ n - 1 : ℕ) : ℝ) + 1 = (rho u κ n : ℝ) := by
          rw [Nat.cast_sub hρ]; simp
        rw [hcast, ← hθ] at hc
        exact (lt_of_mul_lt_mul_right hc hρR.le).le
    have habove : ∀ i, i < n → rho u κ n ≤ i → u i ≤ theta u κ n := by
      intro i hi hri
      refine (anti u n hu hri hi).trans ?_
      have hc : ¬ cond u κ (rho u κ n) := by
        rw [cond_iff_lt u κ n hu _ (by omega)]
        unfold rho; omega
      rw [cond_iff, sum_range_succ, not_lt] at hc
      have h2 : u (rho u κ n) * (rho u κ n : ℝ) ≤ theta u κ n * (rho u κ n : ℝ) := by
        rw [hθ]; linarith
      exact le_of_mul_le_mul_right h2 hρR
    have hsplit : ∑ i ∈ range n, max (u i - theta u κ n) 0 = κ := by
      rw [← sum_range_add_sum_Ico _ hρn]
      rw [sum_congr rfl (fun i hi => max_eq_left (sub_nonneg.mpr (hbelow i (mem_range.mp hi)))),
        sum_congr (s₁ := Ico _ _) rfl (fun i hi => max_eq_right
          (sub_nonpos.mpr (habove i (mem_Ico.mp hi).2 (mem_Ico.mp hi).1))),
        sum_const_zero, sum_sub_distrib, sum_const, card_range, nsmul_eq_mul]
      linarith
    linarith
  · intro hlt
    have h1 : ∑ i ∈ range (rho u κ n), (u i - t) ≤ ∑ i ∈ range (rho u κ n), max (u i - t) 0 :=
      sum_le_sum fun i _ => le_max_left _ _
    have h2 : ∑ i ∈ range (rho u κ n), max (u i - t) 0 ≤ ∑ i ∈ range n, max (u i - t) 0 :=
      sum_le_sum_of_subset_of_nonneg (range_subset_range.mpr hρn) fun _ _ _ => le_max_right _ _
    rw [sum_sub_distrib, sum_const, card_range, nsmul_eq_mul] at h1
    have h3 : t * (rho u κ n : ℝ) < theta u κ n * (rho u κ n : ℝ) := mul_lt_mul_of_pos_right hlt hρR
    linarith

/-! ## Halving an interval -/

/-- One halving of `(lo, hi)`: keep the upper half where `p` holds at the middle, else the lower half. -/
noncomputable def halve (p : ℝ → Prop) (s : ℝ × ℝ) : ℝ × ℝ := by
  classical exact if p (1 / 2 * (s.1 + s.2)) then (1 / 2 * (s.1 + s.2), s.2) else (s.1, 1 / 2 * (s.1 + s.2))

/-- After `k` halvings of `(0, M)` under `p t ↔ t < θ`, with `0 < θ ≤ M`, the interval is cell
    `⌈θ / (M/2^k)⌉ − 1` of the division of `(0, M)` into `2^k` equal cells. -/
theorem halve_iter (p : ℝ → Prop) (θ M : ℝ) (hp : ∀ t, p t ↔ t < θ) (hM : 0 < M) (h0 : 0 < θ) (hθ : θ ≤ M) (k : ℕ) :
    (halve p)^[k] (0, M) = (((⌈θ / (M / 2 ^ k)⌉ : ℝ) - 1) * (M / 2 ^ k), (⌈θ / (M / 2 ^ k)⌉ : ℝ) * (M / 2 ^ k)) := by
  induction k with
  | zero =>
    have : ⌈θ / (M / 2 ^ 0)⌉ = 1 := by
      rw [Int.ceil_eq_iff, pow_zero, div_one]
      push_cast
      refine ⟨by simpa using div_pos h0 hM, by rw [div_le_one hM]; exact hθ⟩
    rw [this]; simp
  | succ k ih =>
    rw [Function.iterate_succ_apply', ih]
    set c := M / 2 ^ k with hc
    have hc0 : 0 < c := by rw [hc]; positivity
    have hc' : M / 2 ^ (k + 1) = c / 2 := by rw [hc, pow_succ]; field_simp
    rw [hc']
    set z := ⌈θ / c⌉ with hz
    have hz1 : ((z : ℝ) - 1) * c < θ := by
      have := Int.ceil_lt_add_one (θ / c)
      rw [← hz] at this
      rw [← lt_div_iff₀ hc0]; linarith
    have hz2 : θ ≤ z * c := by
      rw [← div_le_iff₀ hc0]; exact Int.le_ceil _
    have hmid : 1 / 2 * (((z : ℝ) - 1) * c + z * c) = (2 * (z : ℝ) - 1) * (c / 2) := by ring
    unfold halve
    simp only [hmid]
    by_cases h : (2 * (z : ℝ) - 1) * (c / 2) < θ
    · rw [if_pos (by rw [hmid]; exact (hp _).mpr h)]
      have : ⌈θ / (c / 2)⌉ = 2 * z := by
        rw [Int.ceil_eq_iff]
        push_cast
        refine ⟨by rw [lt_div_iff₀ (by positivity)]; exact h, by rw [div_le_iff₀ (by positivity)]; linarith⟩
      rw [this]; push_cast
      refine Prod.ext rfl ?_
      show (z : ℝ) * c = 2 * z * (c / 2)
      ring
    · rw [if_neg (by rw [hmid]; exact fun hh => h ((hp _).mp hh))]
      have : ⌈θ / (c / 2)⌉ = 2 * z - 1 := by
        rw [Int.ceil_eq_iff]
        push_cast
        refine ⟨by rw [lt_div_iff₀ (by positivity)]; linarith, by rw [div_le_iff₀ (by positivity)]; linarith⟩
      rw [this]; push_cast
      refine Prod.ext ?_ rfl
      show ((z : ℝ) - 1) * c = (2 * z - 1 - 1) * (c / 2)
      ring

/-- The index of the cell of `θ` is between one and the number of cells. -/
theorem ceil_mem (θ M : ℝ) (hM : 0 < M) (h0 : 0 < θ) (hθ : θ ≤ M) (k : ℕ) :
    1 ≤ ⌈θ / (M / 2 ^ k)⌉ ∧ ⌈θ / (M / 2 ^ k)⌉ ≤ 2 ^ k := by
  have hc0 : 0 < M / 2 ^ k := by positivity
  constructor
  · exact Int.one_le_ceil_iff.mpr (div_pos h0 hc0)
  · rw [Int.ceil_le, div_le_iff₀ hc0]
    push_cast
    rw [mul_div_cancel₀ _ (by positivity)]
    exact hθ

end Cert.Proof.Threshold
-- ==== Proof.ThetaEq.lean ====
module

public import proofs.«01_k».proof.Proof.Spec
public import proofs.«01_k».proof.Proof.Threshold
public import Mathlib.Data.Nat.Count

@[expose] public section

noncomputable section

open Idealize.ShloMosaic Finset
open scoped Classical

namespace Cert.Proof.ThetaEq

/-- A row as a sequence, zero past its end. -/
def seq (x : Fin 64 → EReal) (k : ℕ) : EReal := if h : k < 64 then x ⟨k, h⟩ else 0

/-- Below the end, the sequence is the row. -/
theorem seq_val (x : Fin 64 → EReal) (k : Fin 64) : seq x k.val = x k := dif_pos k.isLt

/-- Entry `k` of a sorted row exceeds the threshold that cutting after it would give, as the reference computes it. -/
def econd (u : ℕ → EReal) (κ : EReal) (k : ℕ) : Prop :=
  0 < u k - Ideal.div ((∑ q ∈ range (k + 1), u q) - κ) (((k : ℝ) + 1 : ℝ) : EReal)

/-- The number of entries the reference keeps: at least one. -/
def erho (u : ℕ → EReal) (κ : EReal) : ℕ := max (Nat.count (econd u κ) 64) 1

/-- The reference's exact threshold, rounded to the middle of its cell of the division of `(0, M)` into `2^50`. -/
def etheta (u : ℕ → EReal) (κ M : EReal) : EReal :=
  (min ((2 ^ 50 : ℝ) : EReal) (max ((1 : ℝ) : EReal) (Ideal.liftRound Int.ceil
      (Ideal.div (Ideal.div ((∑ q ∈ range (erho u κ), u q) - κ) ((erho u κ : ℝ) : EReal)) (M * ((1 / 2 ^ 50 : ℝ) : EReal)))))
    - ((1 / 2 : ℝ) : EReal)) * (M * ((1 / 2 ^ 50 : ℝ) : EReal))

/-- The entries kept are between one and sixty-four. -/
theorem erho_mem (u : ℕ → EReal) (κ : EReal) : 1 ≤ erho u κ ∧ erho u κ ≤ 64 := by
  have := Nat.count_le (p := econd u κ) (n := 64)
  unfold erho
  omega

/-- A sum of real numbers is the same sum among the extended ones. -/
theorem coe_sum {ι : Type} (s : Finset ι) (f : ι → ℝ) : ((∑ i ∈ s, f i : ℝ) : EReal) = ∑ i ∈ s, ((f i : ℝ) : EReal) := by
  induction s using Finset.induction_on with
  | empty => simp
  | insert a s h ih => rw [sum_insert h, sum_insert h, EReal.coe_add, ih]

/-- Dividing a real number by a nonzero one. -/
theorem div_real (x y : ℝ) (h : y ≠ 0) : Ideal.div (x : EReal) (y : EReal) = ((x / y : ℝ) : EReal) := by
  rw [Ideal.div_coe h, ← EReal.coe_mul, mul_one_div]

/-- The larger of two real numbers is the same among the extended ones. -/
theorem coe_max (x y : ℝ) : ((max x y : ℝ) : EReal) = max (x : EReal) (y : EReal) :=
  (EReal.coe_strictMono.monotone.map_max)

/-- The smaller of two real numbers is the same among the extended ones. -/
theorem coe_min (x y : ℝ) : ((min x y : ℝ) : EReal) = min (x : EReal) (y : EReal) :=
  (EReal.coe_strictMono.monotone.map_min)

/-! ## A row of real numbers -/

section real
variable (r : Fin 64 → ℝ) (σ : Fin 64 → Fin 64) (κ : ℝ)

/-- The sorted row of real numbers, zero past its end. -/
def rseq (k : ℕ) : ℝ := if h : k < 64 then r (σ ⟨k, h⟩) else 0

/-- The sequence of a row of real entries is the real sequence. -/
theorem seq_real (k : ℕ) : seq (fun q => ((r (σ q) : ℝ) : EReal)) k = ((rseq r σ k : ℝ) : EReal) := by
  unfold seq rseq
  split <;> simp

/-- The sort's condition on real entries is the real condition. -/
theorem econd_real (k : ℕ) : econd (seq fun q => ((r (σ q) : ℝ) : EReal)) κ k ↔ Threshold.cond (rseq r σ) κ k := by
  have hk : (k : ℝ) + 1 ≠ 0 := by positivity
  unfold econd Threshold.cond
  simp only [seq_real]
  rw [← coe_sum, ← EReal.coe_sub, div_real _ _ hk, ← EReal.coe_sub]
  exact EReal.coe_pos

/-- The count on real entries is the real count. -/
theorem erho_real : erho (seq fun q => ((r (σ q) : ℝ) : EReal)) κ = Threshold.rho (rseq r σ) κ 64 := by
  unfold erho Threshold.rho Threshold.count
  rw [Nat.count_eq_card_filter_range]
  simp only [econd_real]

/-- A sum over the sorted row is the sum over the row. -/
theorem sum_rseq (hσ : Function.Bijective σ) (f : ℝ → ℝ) : ∑ k ∈ range 64, f (rseq r σ k) = ∑ x, f (r x) := by
  rw [← Fin.sum_univ_eq_sum_range (fun k => f (rseq r σ k)) 64]
  rw [← (Equiv.ofBijective σ hσ).sum_comp fun x => f (r x)]
  refine sum_congr rfl fun k _ => ?_
  show f (rseq r σ k.val) = f (r (σ k))
  rw [rseq, dif_pos k.isLt]

/-- One halving of a row of real numbers. -/
theorem bstep_real (lo hi : ℝ) : Spec.bstep (fun x => ((r x : ℝ) : EReal)) κ ((lo : EReal), (hi : EReal)) =
    (((Threshold.halve (fun t => κ < ∑ x, max (r x - t) 0) (lo, hi)).1 : EReal), ((Threshold.halve (fun t => κ < ∑ x, max (r x - t) 0) (lo, hi)).2 : EReal)) := by
  have hm : Spec.mid ((lo : EReal), (hi : EReal)) = ((1 / 2 * (lo + hi) : ℝ) : EReal) := by
    unfold Spec.mid
    rw [EReal.coe_mul, EReal.coe_add]
  have hs : ∑ x, max (((r x : ℝ) : EReal) - ((1 / 2 * (lo + hi) : ℝ) : EReal)) 0 = ((∑ x, max (r x - 1 / 2 * (lo + hi)) 0 : ℝ) : EReal) := by
    rw [coe_sum]
    refine sum_congr rfl fun x _ => ?_
    rw [coe_max, EReal.coe_sub, EReal.coe_zero]
  unfold Spec.bstep Threshold.halve
  rw [hm, hs]
  simp only [EReal.coe_lt_coe_iff]
  split <;> rfl

/-- Any number of halvings of a row of real numbers. -/
theorem bsteps_real (lo hi : ℝ) (n : ℕ) : (Spec.bstep (fun x => ((r x : ℝ) : EReal)) κ)^[n] ((lo : EReal), (hi : EReal)) =
    ((((Threshold.halve (fun t => κ < ∑ x, max (r x - t) 0))^[n] (lo, hi)).1 : EReal), (((Threshold.halve (fun t => κ < ∑ x, max (r x - t) 0))^[n] (lo, hi)).2 : EReal)) := by
  induction n with
  | zero => rfl
  | succ n ih => rw [Function.iterate_succ_apply', ih, bstep_real, Function.iterate_succ_apply']

/-- The largest of a row of nonnegative real numbers is one of them. -/
theorem top_real : ∃ M : ℝ, Spec.top (fun x => ((r x : ℝ) : EReal)) = (M : EReal) ∧ ∀ x, r x ≤ M := by
  have h : Spec.top (fun x => ((r x : ℝ) : EReal)) = univ.sup' univ_nonempty fun x => ((r x : ℝ) : EReal) := by
    rw [sup'_eq_sup]
    rfl
  obtain ⟨a, _, ha⟩ := exists_mem_eq_sup' (univ_nonempty (α := Fin 64)) fun x => ((r x : ℝ) : EReal)
  refine ⟨r a, h.trans ha, fun x => ?_⟩
  have := le_sup' (fun x => ((r x : ℝ) : EReal)) (mem_univ x)
  rw [ha] at this
  exact EReal.coe_le_coe_iff.mp this

/-- THE TWO THRESHOLDS OF A ROW OF REAL NUMBERS: the exact one rounded to the middle of its cell is where halving ends. -/
theorem etheta_real (hr : ∀ x, 0 ≤ r x) (hσ : Function.Bijective σ) (ho : ∀ a b : Fin 64, a ≤ b → r (σ b) ≤ r (σ a)) (hκ : 0 ≤ κ) (hs : κ < ∑ x, r x) :
    etheta (seq fun q => ((r (σ q) : ℝ) : EReal)) κ (Spec.top fun x => ((r x : ℝ) : EReal)) = Spec.theta (fun x => ((r x : ℝ) : EReal)) κ := by
  obtain ⟨M, hM, hle⟩ := top_real r
  have hu : ∀ k, k + 1 < 64 → rseq r σ (k + 1) ≤ rseq r σ k := by
    intro k hk
    rw [rseq, rseq, dif_pos hk, dif_pos (by omega : k < 64)]
    exact ho _ _ (Fin.mk_le_mk.mpr (Nat.le_succ k))
  have hp : ∀ t, κ < ∑ x, max (r x - t) 0 ↔ t < Threshold.theta (rseq r σ) κ 64 := by
    intro t
    rw [← sum_rseq r σ hσ fun y => max (y - t) 0]
    exact Threshold.lt_sum_iff _ κ 64 (by norm_num) hu hκ t
  have h0 : 0 < Threshold.theta (rseq r σ) κ 64 := by
    rw [← hp]
    refine hs.trans_eq (sum_congr rfl fun x _ => ?_)
    rw [sub_zero, max_eq_left (hr x)]
  have hθ : Threshold.theta (rseq r σ) κ 64 ≤ M := by
    by_contra hlt
    have := (hp M).mpr (not_le.mp hlt)
    rw [sum_eq_zero fun x _ => max_eq_right (sub_nonpos.mpr (hle x))] at this
    linarith
  have hM0 : 0 < M := h0.trans_le hθ
  obtain ⟨c1, c2⟩ := Threshold.ceil_mem _ M hM0 h0 hθ 50
  have hcell : (M : EReal) * ((1 / 2 ^ 50 : ℝ) : EReal) = ((M / 2 ^ 50 : ℝ) : EReal) := by
    rw [← EReal.coe_mul, mul_one_div]
  have hρ : ((Threshold.rho (rseq r σ) κ 64 : ℕ) : ℝ) ≠ 0 := by
    have := Threshold.rho_pos (rseq r σ) κ 64
    positivity
  have hc : M / 2 ^ 50 ≠ 0 := by positivity
  have e1 : Ideal.div ((∑ q ∈ range (Threshold.rho (rseq r σ) κ 64), ((rseq r σ q : ℝ) : EReal)) - (κ : EReal)) ((Threshold.rho (rseq r σ) κ 64 : ℝ) : EReal) =
      ((Threshold.theta (rseq r σ) κ 64 : ℝ) : EReal) := by
    rw [← coe_sum, ← EReal.coe_sub, div_real _ _ hρ]
    rfl
  unfold etheta Spec.theta
  rw [erho_real, hM]
  simp only [seq_real]
  rw [hcell, e1, div_real _ _ hc, Ideal.liftRound_coe, max_eq_right, min_eq_right]
  · have e0 : ((0 : EReal), (M : EReal)) = (((0 : ℝ) : EReal), (M : EReal)) := by rw [EReal.coe_zero]
    rw [e0, bsteps_real, Threshold.halve_iter _ _ M hp hM0 h0 hθ 50]
    unfold Spec.mid
    rw [← EReal.coe_sub, ← EReal.coe_mul, ← EReal.coe_add, ← EReal.coe_mul]
    congr 1
    ring
  · rw [EReal.coe_le_coe_iff]
    exact_mod_cast c2
  · rw [EReal.coe_le_coe_iff]
    exact_mod_cast c1

end real

/-! ## A row with an infinite entry -/

/-- With an infinite entry, both thresholds are infinite. -/
theorem etheta_top (w : Fin 64 → EReal) (u : ℕ → EReal) (κ : EReal) (hκ : 0 ≤ κ) (a : Fin 64) (ha : w a = ⊤) :
    etheta u κ (Spec.top w) = Spec.theta w κ := by
  have ht : Spec.top w = ⊤ := by
    have h : Spec.top w = univ.sup w := rfl
    rw [h, eq_top_iff, ← ha]
    exact le_sup (mem_univ a)
  have hhalf : ((1 / 2 : ℝ) : EReal) * ⊤ = ⊤ := EReal.coe_mul_top_of_pos (by norm_num)
  have hcell : (⊤ : EReal) * ((1 / 2 ^ 50 : ℝ) : EReal) = ⊤ := EReal.top_mul_coe_of_pos (by positivity)
  have hmid : Spec.mid ((0 : EReal), ⊤) = ⊤ := by
    unfold Spec.mid
    rw [zero_add, hhalf]
  have hb : Spec.bstep w κ (0, ⊤) = (0, ⊤) := by
    unfold Spec.bstep
    rw [hmid, sum_eq_zero fun x _ => by rw [EReal.sub_top]; exact max_eq_right bot_le]
    rw [if_neg (not_lt.mpr hκ), if_neg (not_lt.mpr hκ)]
  have hbs : ∀ n, (Spec.bstep w κ)^[n] (0, ⊤) = (0, ⊤) := fun n => Function.iterate_fixed hb n
  have hdiv : ∀ y, Ideal.div y ⊤ = ((0 : ℝ) : EReal) := by
    intro y
    rw [Ideal.div, if_neg EReal.top_ne_zero, EReal.inv_top, mul_zero, EReal.coe_zero]
  unfold etheta Spec.theta
  rw [ht, hbs, hmid, hcell, hdiv, Ideal.liftRound_coe, Int.ceil_zero, max_eq_left, min_eq_right, ← EReal.coe_sub]
  · exact EReal.coe_mul_top_of_pos (by norm_num)
  · rw [EReal.coe_le_coe_iff]; norm_num
  · rw [EReal.coe_le_coe_iff]; norm_num

/-- THE TWO THRESHOLDS AGREE on every row of nonnegative numbers, infinite ones included. -/
theorem etheta_eq (w : Fin 64 → EReal) (hw : ∀ x, 0 ≤ w x) (σ : Fin 64 → Fin 64) (hσ : Function.Bijective σ) (ho : ∀ a b : Fin 64, a ≤ b → w (σ b) ≤ w (σ a))
    (κ : ℝ) (hκ : 0 ≤ κ) (hs : (κ : EReal) < ∑ x, w x) : etheta (seq fun q => w (σ q)) κ (Spec.top w) = Spec.theta w κ := by
  by_cases h : ∃ a, w a = ⊤
  · obtain ⟨a, ha⟩ := h
    exact etheta_top w _ _ (by exact_mod_cast hκ) a ha
  · have hr : w = fun x => (((w x).toReal : ℝ) : EReal) := by
      funext x
      exact (EReal.coe_toReal (fun e => h ⟨x, e⟩) (fun e => by have := hw x; rw [e] at this; exact absurd this (by simp))).symm
    generalize (fun x => (w x).toReal) = r at hr
    obtain ⟨r, rfl⟩ : ∃ r : Fin 64 → ℝ, w = fun x => ((r x : ℝ) : EReal) := ⟨_, hr⟩
    refine etheta_real r σ κ (fun x => ?_) hσ (fun a b hab => EReal.coe_le_coe_iff.mp (ho a b hab)) hκ ?_
    · exact EReal.coe_nonneg.mp (hw x)
    · rw [← coe_sum] at hs
      exact_mod_cast hs

end Cert.Proof.ThetaEq
-- ==== Proof.RefSort.lean ====
module

public import proofs.«01_k».proof.Proof.RefRead
public import proofs.«01_k».proof.Proof.ThetaEq
public import Idealize.ShloMosaic.Lib.SortFacts
public import Idealize.ShloMosaic.Lib.Routing.Ops
public import Idealize.ShloMosaic.Lib.ReduceAll

@[expose] public section

set_option maxRecDepth 16384

noncomputable section

open Idealize.ShloMosaic Idealize.ShloMosaic.TcCoe Idealize.SL.Sem Idealize.ShloMosaic.Pointwise

namespace Cert.Proof.RefRead

open Cert.ReferenceIdeal Cert.ReferenceIdeal.Gen Cert.ReferenceIdeal.Value Cert.Proof.ThetaEq

variable (V0 : Valuation τ sig (Elt Ideal))

/-! ## The sort -/

/-- The sort's comparison is the order of the numbers. -/
theorem comparator_eq (l r : EReal) : (comparator_f32_d1 (F := Ideal) l r == 1#1) = decide (l < r) := by
  have h0 : FloatOps.ofBits (F := Ideal) .f32 0x00000000#32 = (0 : EReal) := by
    show Ideal.ofBits .f32 0x00000000#32 = 0
    simp [Ideal.ofBits, Ideal.ieee]
  have hz : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have hne : FloatOps.cmpf (F := Ideal) (φ := .f32) .une x x = 0#1 := by
      show BitVec.ofBool (decide (x ≠ x)) = 0#1
      simp
    rw [hne, ValueIdx.select_zero, h0]
    by_cases hx : x = 0
    · have : FloatOps.cmpf (F := Ideal) (φ := .f32) .oeq x (0 : EReal) = 1#1 := by
        show BitVec.ofBool (decide (x = 0)) = 1#1
        simp [hx]
      rw [this, ValueIdx.select_one, hx]
    · have : FloatOps.cmpf (F := Ideal) (φ := .f32) .oeq x (0 : EReal) = 0#1 := by
        show BitVec.ofBool (decide (x = 0)) = 0#1
        simp [hx]
      rw [this, ValueIdx.select_zero]
  unfold comparator_f32_d1
  dsimp only
  rw [hz l, hz r]
  show (BitVec.ofBool (decide (l < r)) == 1#1) = decide (l < r)
  cases decide (l < r) <;> rfl

/-- Reversing a sorted row reads the row through the sort's positions, from the last. -/
theorem sort_at (x : S64x64.Idx → EReal) (i k : Fin 64) :
    Host.reverse (s := S64x64) [1] (Host.sort S64x64 1 (comparator_f32_d1 (F := Ideal)) x) (ix2 i k) =
      x (ix2 i (sortedFrom (fun a b => decide (x (ix2 i a) < x (ix2 i b))) k.rev)) := by
  have ha : ∀ r m : Fin 64, (Shape.Idx.along (s := S64x64) (ix2 i r) 1 m) = ix2 i m := by
    intro r m
    funext a
    match a with
    | ⟨0, _⟩ => rfl
    | ⟨1, _⟩ => rfl
  have hr : (fun a : Fin S64x64.rank => if a ∈ [(1 : Fin S64x64.rank)] then ((ix2 i k : S64x64.Idx) a).rev else (ix2 i k : S64x64.Idx) a) = ix2 i k.rev := by
    funext a
    match a with
    | ⟨0, _⟩ => rfl
    | ⟨1, _⟩ => rfl
  show Host.sort S64x64 1 (comparator_f32_d1 (F := Ideal)) x (fun a : Fin S64x64.rank => if a ∈ [(1 : Fin S64x64.rank)] then ((ix2 i k : S64x64.Idx) a).rev else (ix2 i k : S64x64.Idx) a) = _
  rw [hr]
  have hb : (fun a b : Fin 64 => comparator_f32_d1 (F := Ideal) (x (Shape.Idx.along (s := S64x64) (ix2 i k.rev) 1 a)) (x (Shape.Idx.along (s := S64x64) (ix2 i k.rev) 1 b)) == 1#1)
      = fun a b => decide (x (ix2 i a) < x (ix2 i b)) := by
    funext a b
    rw [ha, ha]
    exact comparator_eq _ _
  show x (Shape.Idx.along (s := S64x64) (ix2 i k.rev) 1 (sortedFrom (fun a b : Fin 64 => comparator_f32_d1 (F := Ideal) (x (Shape.Idx.along (s := S64x64) (ix2 i k.rev) 1 a)) (x (Shape.Idx.along (s := S64x64) (ix2 i k.rev) 1 b)) == 1#1) k.rev)) = _
  rw [hb]
  exact congrArg x (ha k.rev _)

/-- Reading numbers through the sort's positions, from the last, rearranges them, largest first. -/
theorem sorted_desc {n : ℕ} (w : Fin n → EReal) :
    ∃ σ : Fin n → Fin n, (∀ k, σ k = sortedFrom (fun a b => decide (w a < w b)) k.rev) ∧ Function.Bijective σ ∧
    ∀ a b : Fin n, a ≤ b → w (σ b) ≤ w (σ a) := by
  refine ⟨fun k => sortedFrom (fun a b => decide (w a < w b)) k.rev, fun k => rfl, ⟨fun a b h => Fin.rev_injective (sortedFrom_injective _ h), fun a => ?_⟩, fun a b hab => ?_⟩
  · obtain ⟨k, hk⟩ := sortedFrom_surjective (fun a b => decide (w a < w b)) a
    exact ⟨k.rev, by simpa using hk⟩
  · rcases hab.eq_or_lt with rfl | hlt
    · exact le_rfl
    · have h := sortedFrom_noInversion (fun a b => decide (w a < w b)) (fun a b => decide (w a < w b))
        (fun p q h => decide_eq_false (not_lt.mpr (of_decide_eq_true h).le)) (fun _ _ h => h)
        (fun p q r h1 h2 => decide_eq_false (not_lt.mpr (le_trans (not_lt.mp (of_decide_eq_false h2)) (not_lt.mp (of_decide_eq_false h1)))))
        b.rev a.rev (Fin.rev_lt_rev.mpr hlt)
      exact not_lt.mp (of_decide_eq_false h)

/-- A sorted and reversed array's row is the row, rearranged, largest first. -/
theorem sort_row (x : S64x64.Idx → EReal) (i : Fin 64) (w : Fin 64 → EReal) (hw : ∀ a, x (ix2 i a) = w a) : ∃ σ : Fin 64 → Fin 64, Function.Bijective σ ∧
    (∀ k, Host.reverse (s := S64x64) [1] (Host.sort S64x64 1 (comparator_f32_d1 (F := Ideal)) x) (ix2 i k) = w (σ k)) ∧
    ∀ a b : Fin 64, a ≤ b → w (σ b) ≤ w (σ a) := by
  obtain ⟨σ, hσ, hb, ho⟩ := sorted_desc w
  refine ⟨σ, hb, fun k => ?_, ho⟩
  rw [sort_at, hσ, hw]
  simp only [hw]

/-- The sorted row is the row's absolute values, rearranged, largest first. -/
theorem v45_at (i : Fin 64) : ∃ σ : Fin 64 → Fin 64, Function.Bijective σ ∧
    (∀ k, (res_main_v45 V0 : Vec Ideal S64x64 .f32) (ix2 i k) = Spec.ab (W V0 i (σ k))) ∧
    ∀ a b : Fin 64, a ≤ b → Spec.ab (W V0 i (σ b)) ≤ Spec.ab (W V0 i (σ a)) :=
  sort_row (res_main_v42 V0) i (fun a => Spec.ab (W V0 i a)) (v42_at V0 i)

/-! ## The prefix sums -/

/-- A left fold of additions is the start plus the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window's terms past the padding add up to the row's prefix. -/
theorem window_sum (s : ℕ → EReal) (j : Fin 64) : (∑ n : Fin (Shape.numel ⟨2, ![1, 64]⟩), if 63 ≤ j.val + n.val then s (j.val + n.val - 63) else 0) =
    ∑ k ∈ Finset.range (j.val + 1), s k := by
  rw [Fin.sum_univ_eq_sum_range (fun w => if 63 ≤ j.val + w then s (j.val + w - 63) else 0), show Shape.numel ⟨2, ![1, 64]⟩ = (63 - j.val) + (j.val + 1) by
      rw [show Shape.numel ⟨2, ![1, 64]⟩ = 64 from Routing.numel2 64]; omega, Finset.sum_range_add]
  rw [Finset.sum_eq_zero fun w hw => if_neg (by have := Finset.mem_range.mp hw; omega), zero_add]
  refine Finset.sum_congr rfl fun w hw => ?_
  rw [if_pos (by omega), show j.val + (63 - j.val + w) - 63 = w by omega]

/-- One term of a window: an entry of the row, or zero in the padding. -/
theorem window_term (x : S64x64.Idx → EReal) (i j : Fin 64) (hr : 2 = 2) (n : Fin (Shape.numel ⟨2, ![1, 64]⟩)) {D : Decidable (∀ a : Fin 2,
      (![0, 63] : Fin 2 → ℕ) a ≤ ((ix2 i j : S64x64.Idx) (a.cast hr)).val * (![1, 1] : Fin 2 → ℕ) a + ((⟨2, ![1, 64]⟩ : Shape).rowMajor.symm n a).val ∧
      ((ix2 i j : S64x64.Idx) (a.cast hr)).val * (![1, 1] : Fin 2 → ℕ) a + ((⟨2, ![1, 64]⟩ : Shape).rowMajor.symm n a).val - (![0, 63] : Fin 2 → ℕ) a < S64x64.size a)} :
    (if hin : ∀ a : Fin 2,
      (![0, 63] : Fin 2 → ℕ) a ≤ ((ix2 i j : S64x64.Idx) (a.cast hr)).val * (![1, 1] : Fin 2 → ℕ) a + ((⟨2, ![1, 64]⟩ : Shape).rowMajor.symm n a).val ∧
      ((ix2 i j : S64x64.Idx) (a.cast hr)).val * (![1, 1] : Fin 2 → ℕ) a + ((⟨2, ![1, 64]⟩ : Shape).rowMajor.symm n a).val - (![0, 63] : Fin 2 → ℕ) a < S64x64.size a
      then x (fun a => ⟨((ix2 i j : S64x64.Idx) (a.cast hr)).val * (![1, 1] : Fin 2 → ℕ) a + ((⟨2, ![1, 64]⟩ : Shape).rowMajor.symm n a).val - (![0, 63] : Fin 2 → ℕ) a, (hin a).2⟩) else 0) =
    if 63 ≤ j.val + n.val then seq (fun q => x (ix2 i q)) (j.val + n.val - 63) else 0 := by
  have hn : n.val < 64 := lt_of_lt_of_eq n.isLt (Routing.numel2 64)
  have e : (⟨2, ![1, 64]⟩ : Shape).rowMajor.symm n = ix2 (0 : Fin 1) (n.cast (Routing.numel2 64)) := Routing.symm2 n
  have p0 : ((ix2 i j : S64x64.Idx) ((0 : Fin 2).cast hr)).val * (![1, 1] : Fin 2 → ℕ) 0 + ((⟨2, ![1, 64]⟩ : Shape).rowMajor.symm n 0).val = i.val := by
    show i.val * 1 + ((⟨2, ![1, 64]⟩ : Shape).rowMajor.symm n 0).val = i.val
    rw [e]
    show i.val * 1 + 0 = i.val
    omega
  have p1 : ((ix2 i j : S64x64.Idx) ((1 : Fin 2).cast hr)).val * (![1, 1] : Fin 2 → ℕ) 1 + ((⟨2, ![1, 64]⟩ : Shape).rowMajor.symm n 1).val = j.val + n.val := by
    show j.val * 1 + ((⟨2, ![1, 64]⟩ : Shape).rowMajor.symm n 1).val = j.val + n.val
    rw [e]
    show j.val * 1 + n.val = j.val + n.val
    omega
  by_cases hc : 63 ≤ j.val + n.val
  · have hlt : j.val + n.val - 63 < 64 := by omega
    rw [if_pos hc, dif_pos (by
      intro a
      match a with
      | ⟨0, _⟩ => exact ⟨Nat.zero_le _, lt_of_le_of_lt (Nat.sub_le _ _) (lt_of_eq_of_lt p0 i.isLt)⟩
      | ⟨1, _⟩ => exact ⟨hc.trans_eq p1.symm, lt_of_eq_of_lt (congrArg (· - 63) p1) hlt⟩), seq, dif_pos hlt]
    refine congrArg x (funext fun a => Fin.ext ?_)
    match a with
    | ⟨0, _⟩ => exact p0
    | ⟨1, _⟩ => exact congrArg (· - 63) p1
  · rw [if_neg hc, dif_neg (fun hin => hc ((hin 1).1.trans_eq p1))]

/-- The windows of the running sum add a row's entries up to and including the position. -/
theorem window_at (x : FVec Ideal S64x64 .f32) (init : FVec Ideal S_ .f32) (h hu) (h0 : init (Shape.Idx.first hu) = (0 : EReal)) (i j : Fin 64) :
    Host.reduceWindowAdd (F := Ideal) (s := S64x64) (t := S64x64) ![1, 64] ![1, 1] ![0, 63] ![0, 0] x init h hu (ix2 i j) =
      ∑ k ∈ Finset.range (j.val + 1), seq (fun q => x (ix2 i q)) k := by
  unfold Host.reduceWindowAdd
  show Ideal.hostReduceWindowAdd _ _ _ _ h x (init (Shape.Idx.first hu)) (ix2 i j) = _
  unfold Ideal.hostReduceWindowAdd Host.reduceWindow
  dsimp only
  rw [foldl_add, h0, zero_add, ← Fin.sum_univ_def]
  refine (Finset.sum_congr rfl fun n _ => window_term x i j h.1 n).trans ?_
  exact window_sum _ j

/-- The sorted row, as a sequence. -/
def srow (i : Fin 64) : ℕ → EReal := seq fun q => (res_main_v45 V0 : Vec Ideal S64x64 .f32) (ix2 i q)

/-- The reference's running sums. -/
theorem v46_at (i j : Fin 64) : (res_main_v46 V0 : Vec Ideal S64x64 .f32) (ix2 i j) = ∑ k ∈ Finset.range (j.val + 1), srow V0 i k := by
  unfold res_main_v46 srow
  refine window_at _ _ _ _ ?_ i j
  show Ideal.ofBits .f32 0x00000000#32 = 0
  simp [Ideal.ofBits, Ideal.ieee]

end Cert.Proof.RefRead
-- ==== Proof.RefTheta.lean ====
module

public import proofs.«01_k».proof.Proof.RefSort

@[expose] public section

set_option maxRecDepth 16384

noncomputable section

open Idealize.ShloMosaic Idealize.ShloMosaic.TcCoe Idealize.SL.Sem Idealize.ShloMosaic.Pointwise
open scoped Classical

namespace Cert.Proof.RefRead

open Cert.ReferenceIdeal Cert.ReferenceIdeal.Gen Cert.ReferenceIdeal.Value Cert.Proof.ThetaEq

variable (V0 : Valuation τ sig (Elt Ideal))

/-! ## The number of entries kept -/

/-- A small natural number, as a word, read signed and made real. -/
theorem sitofp_ofNat (n : ℕ) (hn : n < 2 ^ 31) : FloatOps.sitofp (F := Ideal) .f32 (BitVec.ofNat 32 n) = (((n : ℕ) : ℝ) : EReal) := by
  have h : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [h, Int.cast_natCast]

/-- A decided bit is one exactly when what it decides holds. -/
theorem ofBool_one (p : Prop) [D : Decidable p] : BitVec.ofBool (decide p) = 1#1 ↔ p := by
  by_cases h : p <;> simp [h]

/-- Reading the reference's mask: the entry exceeds its own threshold. -/
theorem mask_at (i q : Fin 64) :
    cmpf (F := Ideal) (φ := .f32) .ogt (subf (res_main_v45 V0) (Host.divf (subf (res_main_v46 V0) (broadcastInDim S64x64 ![] bcast_S_S64x64 (res_main_v41 V0))) (broadcastInDim S64x64 ![0, 1] bcast_S1x64_S64x64_0_1 (broadcastInDim S1x64 ![1] bcast_S64_S1x64_1 (addf (broadcastInDim S64 ![] bcast_S_S64 (constant S_ .f32 0x3F800000#32)) (sitofp .f32 (iotaInDim S64 32 0))))))) (broadcastInDim S64x64 ![] bcast_S_S64x64 (constant S_ .f32 0x00000000#32)) (ix2 i q) = 1#1
      ↔ econd (srow V0 i) (Spec.kv (A V0)) q.val := by
  unfold econd
  rw [← v46_at V0 i q, ← v41_at V0 ix0, show srow V0 i q.val = (res_main_v45 V0 : Vec Ideal S64x64 .f32) (ix2 i q) from seq_val _ q]
  have h1 : (((q.val : ℝ) + 1 : ℝ) : EReal) = 1 + FloatOps.sitofp (F := Ideal) .f32 (BitVec.ofNat 32 q.val) := by
    rw [sitofp_ofNat _ (by omega), add_comm, EReal.coe_add, EReal.coe_one]
  rw [h1]
  pointwise
  exact ofBool_one _

/-- The number of entries kept, as a word. -/
theorem v61_at (i : Fin 64) : (res_main_v61 V0 : IVec S64 32) (ix1 i) = BitVec.ofNat 32 (erho (srow V0 i) (Spec.kv (A V0))) := by
  have h := Routing.reduce_count (n := 64) (m := 64) (by norm_num) _ natLt_1_32 reducesTo_S64x64_S64_d1 h_S_ i _ (mask_at V0 i)
  have hc := Nat.count_le (p := econd (srow V0 i) (Spec.kv (A V0))) (n := 64)
  unfold res_main_v61
  show IntOp.maxsi (Host.reduce IntOp.addi _ _ _ _ (ix1 i)) 1#32 = _
  refine (congrArg (IntOp.maxsi · 1#32) h).trans ?_
  unfold erho
  generalize Nat.count (econd (srow V0 i) (Spec.kv (A V0))) 64 = n at hc ⊢
  interval_cases n <;> rfl

/-- The position of the last entry kept, as a word. -/
theorem v64_at (i : Fin 64) : (res_main_v64 V0 : IVec S64x1 32) (ix2 i 0) = BitVec.ofNat 32 (erho (srow V0 i) (Spec.kv (A V0)) - 1) := by
  have hm := erho_mem (srow V0 i) (Spec.kv (A V0))
  unfold res_main_v64
  clean_types
  pointwise
  rw [v61_at]
  generalize erho (srow V0 i) (Spec.kv (A V0)) = n at hm ⊢
  obtain ⟨h1, h2⟩ := hm
  interval_cases n <;> rfl

/-- That position again, in the shape the gather takes. -/
theorem c5_at (i : Fin 64) : (res_main_call8_v5 V0 : IVec S64x1x1 32) (ix3 i 0 0) = BitVec.ofNat 32 (erho (srow V0 i) (Spec.kv (A V0)) - 1) := by
  have hm := erho_mem (srow V0 i) (Spec.kv (A V0))
  unfold res_main_call8_v5
  clean_types
  pointwise
  rw [v64_at]
  generalize erho (srow V0 i) (Spec.kv (A V0)) = n at hm ⊢
  obtain ⟨h1, h2⟩ := hm
  interval_cases n <;> rfl

/-- The gather reads, in each row, the position its word gives. -/
theorem gather_at (x : S64x64.Idx → EReal) (idx : IVec S64x1x1 32) (i : Fin 64) (k : Fin 64) (hk : idx (ix3 i 0 0) = BitVec.ofNat 32 k.val) :
    Host.gather gather_S64x64_S64x1x1_S64x1_n_1_0_0_1_2_11 x idx (ix2 i 0) = x (ix2 i k) := by
  unfold Host.gather
  refine congrArg x (funext fun a => Fin.ext ?_)
  show gather_S64x64_S64x1x1_S64x1_n_1_0_0_1_2_11.start (ix2 i 0) idx a + gather_S64x64_S64x1x1_S64x1_n_1_0_0_1_2_11.batchCoord (ix2 i 0) a
      + gather_S64x64_S64x1x1_S64x1_n_1_0_0_1_2_11.offCoord (ix2 i 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S64x64_S64x1x1_S64x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x64_S64x1x1_S64x1_n_1_0_0_1_2_11.startIndexMap from List.mem_singleton.mpr rfl)]
    have hsi : gather_S64x64_S64x1x1_S64x1_n_1_0_0_1_2_11.siIdx (ix2 i 0) ⟨List.idxOf (1 : Fin 2) gather_S64x64_S64x1x1_S64x1_n_1_0_0_1_2_11.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hk]
    show min (BitVec.ofNat 32 k.val).toInt.toNat 63 = k.val
    have h : (BitVec.ofNat 32 k.val).toInt = (k.val : ℤ) := by
      rw [BitVec.toInt_eq_toNat_of_lt (by rw [BitVec.toNat_ofNat]; omega), BitVec.toNat_ofNat, Nat.mod_eq_of_lt (by omega)]
    rw [h]
    omega

/-! ## The threshold -/

/-- The constant `2^-50`. -/
theorem cell_eq : Ideal.ofBits .f32 0x26800000#32 = ((1 / 2 ^ 50 : ℝ) : EReal) := by
  simp [Ideal.ofBits, Ideal.ieee]; rw [← EReal.coe_mul]; norm_num

/-- The constant `2^50`. -/
theorem cells_eq : Ideal.ofBits .f32 0x58800000#32 = ((2 ^ 50 : ℝ) : EReal) := by
  simp [Ideal.ofBits, Ideal.ieee]; rw [← EReal.coe_pow, ← EReal.coe_pow, ← EReal.coe_mul]; norm_num

/-- The constant one. -/
theorem one_eq : Ideal.ofBits .f32 0x3F800000#32 = ((1 : ℝ) : EReal) := by
  simp [Ideal.ofBits, Ideal.ieee]; rw [← EReal.coe_mul]; norm_num

/-- The constant one half. -/
theorem half_eq : Ideal.ofBits .f32 0x3F000000#32 = ((1 / 2 : ℝ) : EReal) := by
  simp [Ideal.ofBits, Ideal.ieee]; rw [← EReal.coe_mul]; norm_num

/-- The constant minus infinity. -/
theorem bot_eq : Ideal.ofBits .f32 0xFF800000#32 = ⊥ := by
  simp [Ideal.ofBits, Ideal.ieee]

/-- The size of a row's cell. -/
theorem v73_at (i : Fin 64) : (res_main_v73 V0 : Vec Ideal S64 .f32) (ix1 i) = Spec.top (fun x => Spec.ab (W V0 i x)) * ((1 / 2 ^ 50 : ℝ) : EReal) := by
  unfold res_main_v73 Spec.top
  simp only [← v42_at]
  rw [← cell_eq, ← bot_eq]
  clean_types
  pointwise

/-- The gather's position is never out of range. -/
theorem inrange_at (i : Fin 64) : (Finset.univ : Finset (Fin 1)).fold IntOp.andi 1#1 (fun x =>
    IntOp.andi (IntOp.cmpi CmpIPredicate.sge ((res_main_call8_v5 V0 : IVec S64x1x1 32) (ix3 i 0 x)) 0#32)
      (IntOp.cmpi CmpIPredicate.sle ((res_main_call8_v5 V0 : IVec S64x1x1 32) (ix3 i 0 x)) 63#32)) = 1#1 := by
  have hm := erho_mem (srow V0 i) (Spec.kv (A V0))
  rw [Finset.univ_unique, Finset.fold_singleton]
  rw [show (default : Fin 1) = 0 from rfl, c5_at]
  generalize erho (srow V0 i) (Spec.kv (A V0)) = n at hm ⊢
  obtain ⟨h1, h2⟩ := hm
  interval_cases n <;> rfl

/-- The gather reads the sum of the entries kept. -/
theorem kept_at (i : Fin 64) : Host.gather gather_S64x64_S64x1x1_S64x1_n_1_0_0_1_2_11 (res_main_v46 V0 : Vec Ideal S64x64 .f32) (res_main_call8_v5 V0 : IVec S64x1x1 32) (ix2 i 0) =
    ∑ k ∈ Finset.range (erho (srow V0 i) (Spec.kv (A V0))), srow V0 i k := by
  have hm := erho_mem (srow V0 i) (Spec.kv (A V0))
  refine (gather_at _ _ i ⟨erho (srow V0 i) (Spec.kv (A V0)) - 1, by omega⟩ (c5_at V0 i)).trans ?_
  refine (v46_at V0 i _).trans ?_
  show ∑ k ∈ Finset.range (erho (srow V0 i) (Spec.kv (A V0)) - 1 + 1), srow V0 i k = _
  rw [Nat.sub_add_cancel hm.1]

/-- The projected weights of the reference, with its own threshold. -/
theorem v90_raw (i j : Fin 64) : (res_main_v90 V0 : Vec Ideal S64x64 .f32) (ix2 i j) =
    if Spec.kv (A V0) < ∑ x, Spec.ab (W V0 i x) then
      Ideal.sign (W V0 i j) * max (Spec.ab (W V0 i j) - etheta (srow V0 i) (Spec.kv (A V0)) (Spec.top (fun x => Spec.ab (W V0 i x)))) 0
    else W V0 i j := by
  have hm := erho_mem (srow V0 i) (Spec.kv (A V0))
  unfold res_main_v90 etheta
  rw [← v73_at, ← kept_at, ← sitofp_ofNat _ (by omega), ← v61_at, ← cells_eq, ← one_eq, ← half_eq]
  simp only [← v42_at, ← v41_at V0 ix0]
  clean_types
  pointwise
  have e1 : id (constant (F := Ideal) S_ .f32 0x3F800000#32) ix0 = (1 : EReal) := one_eq.trans EReal.coe_one
  rw [inrange_at, ValueIdx.select_one, e1]
  rfl

/-- The bound on a row's absolute sum is a nonnegative real number. -/
theorem kv_real (M : Fin 2048 → Fin 2048 → EReal) : ∃ κ : ℝ, 0 ≤ κ ∧ Spec.kv M = (κ : EReal) := by
  have ha : ∃ a : ℝ, 0 < a ∧ Ideal.ofBits .f32 0x3F666666#32 = (a : EReal) := by
    refine ⟨_, ?_, by simp [Ideal.ofBits, Ideal.ieee]; rw [← EReal.coe_mul]⟩
    positivity
  have hb : ∃ b : ℝ, 0 < b ∧ Ideal.ofBits .f32 0x3727C5AC#32 = (b : EReal) := by
    refine ⟨_, ?_, by simp [Ideal.ofBits, Ideal.ieee]; rw [← EReal.coe_mul]⟩
    positivity
  obtain ⟨a, ha0, ha⟩ := ha
  obtain ⟨b, hb0, hb⟩ := hb
  unfold Spec.kv
  rw [ha, hb]
  have h0 : (0 : EReal) ≤ Spec.ab (Spec.lam M) := by
    unfold Spec.ab
    rcases le_total 0 (Spec.lam M) with h | h
    · exact le_max_of_le_left h
    · exact le_max_of_le_right (EReal.neg_nonneg.mpr h)
  generalize Spec.ab (Spec.lam M) = l at h0
  induction l with
  | bot => exact absurd h0 (by simp)
  | top => exact ⟨0, le_rfl, by rw [EReal.top_add_coe, Ideal.div, if_neg EReal.top_ne_zero, EReal.inv_top, mul_zero, EReal.coe_zero]⟩
  | coe r =>
    have hr : 0 ≤ r := EReal.coe_nonneg.mp h0
    exact ⟨a / (r + b), by positivity, by rw [← EReal.coe_add, div_real _ _ (by positivity)]⟩

/-- The projected weights of the reference are those of the halvings. -/
theorem v90_at (i j : Fin 64) : (res_main_v90 V0 : Vec Ideal S64x64 .f32) (ix2 i j) = Spec.proj (W V0) (Spec.kv (A V0)) i j := by
  rw [v90_raw]
  unfold Spec.proj
  by_cases hs : Spec.kv (A V0) < ∑ x, Spec.ab (W V0 i x)
  · rw [if_pos hs, if_pos hs]
    obtain ⟨κ, hκ, e⟩ := kv_real (A V0)
    obtain ⟨σ, hσ, hv, ho⟩ := v45_at V0 i
    have hw : ∀ x, (0 : EReal) ≤ Spec.ab (W V0 i x) := by
      intro x
      unfold Spec.ab
      rcases le_total 0 (W V0 i x) with h | h
      · exact le_max_of_le_left h
      · exact le_max_of_le_right (EReal.neg_nonneg.mpr h)
    have hrow : srow V0 i = seq fun q => Spec.ab (W V0 i (σ q)) := by
      unfold srow
      exact congrArg seq (funext hv)
    rw [hrow, e, etheta_eq (fun x => Spec.ab (W V0 i x)) hw σ hσ ho κ hκ (e ▸ hs)]
  · rw [if_neg hs, if_neg hs]

end Cert.Proof.RefRead
-- ==== Proof.RefOut.lean ====
module

public import proofs.«01_k».proof.Proof.RefTheta

@[expose] public section

set_option maxRecDepth 16384

noncomputable section

open Idealize.ShloMosaic Idealize.ShloMosaic.TcCoe Idealize.SL.Sem Idealize.ShloMosaic.Pointwise

namespace Cert.Proof.RefRead

open Cert.ReferenceIdeal Cert.ReferenceIdeal.Gen Cert.ReferenceIdeal.Value

variable (V0 : Valuation τ sig (Elt Ideal))

/-- From a zero state, one step gives the state the iteration starts from otherwise. -/
theorem xstep_zero (P : Fin 64 → Fin 64 → EReal) (M : Fin 2048 → Fin 2048 → EReal) (B X : Fin 64 → Fin 2048 → EReal) (hX : ∀ i q, X i q = 0) :
    Spec.xstep P M B X = Spec.xstart B := by
  funext i q
  unfold Spec.xstep Spec.xstart
  simp only [hX, mul_zero, Finset.sum_const_zero, zero_mul, zero_add]

/-- The reference's result, as its steps compose it. -/
def result : FVec Ideal S2048x64 .f32 :=
  transpose S2048x64 [1, 0] ((rstep (res_main_v90 V0) (res_main_v4 V0) (res_main_v92 V0))^[20] (V0 (Proc.devRef .tc main_arg4))) transposes_S64x2048_S2048x64_1_0

/-- The reference's result at an index, when its starting state is zero. -/
theorem result_at (h0 : ∀ i q, x0 V0 i q = 0) (p : Fin 2048) (i : Fin 64) :
    result V0 (ix2 p i) = Spec.out (W V0) (om V0) (ft V0) (Spec.mat (adj V0) (sw V0) (sb V0)) i p := by
  have e : result V0 (ix2 p i) = (rstep (res_main_v90 V0) (res_main_v4 V0) (res_main_v92 V0))^[20] (V0 (Proc.devRef .tc main_arg4)) (ix2 i p) := by
    unfold result
    generalize (rstep (res_main_v90 V0) (res_main_v4 V0) (res_main_v92 V0))^[20] (V0 (Proc.devRef .tc main_arg4)) = X
    pointwise
  rw [e]
  refine (congrFun (congrFun (rsteps_at (res_main_v90 V0) (res_main_v4 V0) (res_main_v92 V0) (V0 (Proc.devRef .tc main_arg4)) 20) i) p).trans ?_
  have e1 : (fun i r => (res_main_v90 V0 : Vec Ideal S64x64 .f32) (ix2 i r)) = Spec.proj (W V0) (Spec.kv (A V0)) := funext fun i => funext fun r => v90_at V0 i r
  have e2 : (fun p q => (res_main_v4 V0 : Vec Ideal S2048x2048 .f32) (ix2 p q)) = A V0 := funext fun i => funext fun r => v4_at V0 i r
  have e3 : (fun i q => (res_main_v92 V0 : Vec Ideal S64x2048 .f32) (ix2 i q)) = Spec.inj (om V0) (ft V0) (A V0) := funext fun i => funext fun r => v92_at V0 i r
  have ex : (fun i q => (V0 (Proc.devRef .tc main_arg4) : Vec Ideal S64x2048 .f32) (ix2 i q)) = x0 V0 := rfl
  rw [e1, e2, e3, ex, Function.iterate_succ_apply, xstep_zero _ _ _ _ h0]
  rfl

end Cert.Proof.RefRead
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelRun
public import proofs.«01_k».proof.Proof.RefOut
public import Idealize.ShloMosaic.Adequacy
public import Idealize.ShloMosaic.Init

@[expose] public section

set_option maxRecDepth 16384

noncomputable section

namespace Cert.Proof

open Idealize.ShloMosaic Idealize.ShloMosaic.StableHlo Idealize.SL.Sem Idealize.ShloMosaic.Pointwise

/-- The side condition of the precondition's one operation. -/
theorem preFacts : Cert.Pre_zero_start.Facts := ⟨by decide⟩

/-- The reference's result at an index, from a zero starting state. -/
theorem refRun (m : (ℓ : Loc Cert.ReferenceIdeal.nD Cert.ReferenceIdeal.τ Cert.ReferenceIdeal.sig) → Buf (Elt Ideal) ℓ) (c : Dev Cert.ReferenceIdeal.nD)
    (v : Buf (Elt Ideal) ((c.tc : Thread Cert.ReferenceIdeal.nD Cert.ReferenceIdeal.τ).loc Cert.ReferenceIdeal.main_v173))
    (hv : v = RefRead.result (launchContents m c)) (h0 : ∀ i q, RefRead.x0 (launchContents m c) i q = 0) (p : Fin 2048) (i : Fin 64) :
    (v : Vec Ideal Cert.ReferenceIdeal.S2048x64 .f32) (ix2 p i) =
      Spec.out (RefRead.W (launchContents m c)) (RefRead.om (launchContents m c)) (RefRead.ft (launchContents m c))
        (Spec.mat (RefRead.adj (launchContents m c)) (RefRead.sw (launchContents m c)) (RefRead.sb (launchContents m c))) i p := by
  subst hv
  exact RefRead.result_at _ h0 p i

/-- The reference keeps its arguments and ends with every semaphore counter at zero. -/
theorem refFrame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The precondition read at an index: the starting state is zero. -/
theorem zero_of_pre (x : FVec Ideal Cert.Pre_zero_start.S64x2048 .f32) (a0 a1 a2 a3 a5 a6)
    (h : @Cert.Pre_zero_start.fn preFacts Ideal _ a0 a1 a2 a3 x a5 a6 = fun _ => 1#1) (i : Fin 64) (q : Fin 2048) : x (ix2 i q) = (0 : EReal) := by
  have e := congrFun h (ix2 i q)
  unfold Cert.Pre_zero_start.fn at e
  dsimp only at e
  have e' : BitVec.ofBool (decide (x (ix2 i q) = Ideal.ofBits .f32 0x00000000#32)) = 1#1 := e
  have hz : Ideal.ofBits .f32 0x00000000#32 = (0 : EReal) := by simp [Ideal.ofBits, Ideal.ieee]
  rw [hz] at e'
  exact (RefRead.ofBool_one _).mp e'

/-- The kernel and the reference, from equal arguments and a zero starting state, end with equal results. -/
theorem value : algebraic_KernelIdeal_ReferenceIdeal_pre_zero_start (hKernelIdeal := Cert.KernelIdeal.Gen.facts) (hReferenceIdeal := Cert.ReferenceIdeal.Gen.facts)
    (hPre_zero_start := preFacts) := by
  intro m ρ m' ρ' hpre hagree
  refine ⟨fun c => Cert.KernelIdeal.Value.G6 m c, Cert.KernelIdeal.Value.run m ρ, ?_⟩
  refine (θ_run Cert.ReferenceIdeal.defs _ _).mono (fun _ h c => ⟨(h c).1.trans ?_, (h c).2⟩) (Cert.ReferenceIdeal.Value.run (F := Ideal) m' ρ')
  obtain ⟨g0, g1, g2, g3, g4, g5, g6⟩ := hagree c
  have h0 : ∀ i q, RefRead.x0 (launchContents m' c) i q = 0 := by
    intro i q
    refine Eq.trans (?_ : _ = (m ((c.tc : Thread Cert.KernelIdeal.nD Cert.KernelIdeal.τ).loc Cert.KernelIdeal.main_arg4) : Vec Ideal Cert.KernelIdeal.S64x2048 .f32) (ix2 i q)) (zero_of_pre _ _ _ _ _ _ _ (hpre c) i q)
    exact congrFun g4 (ix2 i q)
  funext y
  obtain ⟨p, i, rfl⟩ : ∃ (p : Fin 2048) (i : Fin 64), y = ix2 p i := ⟨y 0, y 1, ValueIdx.eq_ix2 y⟩
  refine Eq.trans (refRun m' c _ rfl h0 p i) (Eq.trans ?_ (KernelRun.G6_at m c p i).symm)
  have eW : RefRead.W (launchContents m' c) = KernelRun.W m c := funext fun i => funext fun j => congrFun g2 (ix2 i j)
  have eo : RefRead.om (launchContents m' c) = KernelRun.om m c := funext fun i => funext fun j => congrFun g3 (ix2 i j)
  have ef : RefRead.ft (launchContents m' c) = KernelRun.ft m c := funext fun i => funext fun j => congrFun g0 (ix2 i j)
  have ea : RefRead.adj (launchContents m' c) = KernelRun.adj m c := funext fun i => funext fun j => congrFun g1 (ix2 i j)
  have es : RefRead.sw (launchContents m' c) = KernelRun.sw m c := funext fun i => funext fun j => congrFun g5 (ix2 i j)
  have eb : RefRead.sb (launchContents m' c) = KernelRun.sb m c := funext fun j => congrFun g6 (ix1 j)
  rw [eW, eo, ef, ea, es, eb]

/-- The whole claim. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => refFrame m ρ,
    fun m ρ _ => refFrame m ρ,
    IdealRules.sign_bit.statement _ _,
    value⟩

end Cert.Proof

end
